-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S3x768x14336 : Shape := ⟨3, ![3, 768, 14336]⟩
abbrev S3x768x112 : Shape := ⟨3, ![3, 768, 112]⟩
abbrev S1 : Shape := ⟨1, ![1]⟩
abbrev S1x3x768 : Shape := ⟨3, ![1, 3, 768]⟩
abbrev S14336 : Shape := ⟨1, ![14336]⟩
abbrev S_ : Shape := ⟨0, ![]⟩

class Facts : Prop where
  bcast_S_S3x768x14336 : S_.BroadcastsInDim S3x768x14336 (![] : Fin 0 → Fin S3x768x14336.rank)
  bcast_S_S3x768x112 : S_.BroadcastsInDim S3x768x112 (![] : Fin 0 → Fin S3x768x112.rank)
  bcast_S_S1 : S_.BroadcastsInDim S1 (![] : Fin 0 → Fin S1.rank)
  bcast_S_S1x3x768 : S_.BroadcastsInDim S1x3x768 (![] : Fin 0 → Fin S1x3x768.rank)
  bcast_S_S14336 : S_.BroadcastsInDim S14336 (![] : Fin 0 → Fin S14336.rank)

variable [Facts]

def fn_part1 {F : FTy → Type} [FloatOps F] (main_arg4 : FVec F S1x3x768 .f32) (main_arg5 : FVec F S14336 .f32) (main_arg6 : FVec F S14336 .f32) (main_v4 : IVec S3x768x14336 1) (main_v7 : IVec S3x768x112 1) (main_v12 : IVec S1 1) (main_v15 : IVec S1x3x768 1) (main_v16 : FVec F S1x3x768 .f32) : IVec S3x768x14336 1 × IVec S3x768x112 1 × IVec S1 1 × IVec S1x3x768 1 × IVec S1x3x768 1 × IVec S14336 1 × IVec S14336 1 :=
  let main_v17 : IVec S1x3x768 1 := cmpf .oge main_arg4 main_v16
  let main_v18 : FVec F S14336 .f32 := Host.absf main_arg5
  let main_cst_5 : FVec F S_ .f32 := constant S_ .f32 0x53800000#32
  let main_v19 : FVec F S14336 .f32 := broadcastInDim S14336 ![] bcast_S_S14336 main_cst_5
  let main_v20 : IVec S14336 1 := cmpf .ole main_v18 main_v19
  let main_v21 : FVec F S14336 .f32 := Host.absf main_arg6
  let main_cst_6 : FVec F S_ .f32 := constant S_ .f32 0x53800000#32
  let main_v22 : FVec F S14336 .f32 := broadcastInDim S14336 ![] bcast_S_S14336 main_cst_6
  let main_v23 : IVec S14336 1 := cmpf .ole main_v21 main_v22
  (main_v4, main_v7, main_v12, main_v15, main_v17, main_v20, main_v23)

def fn {F : FTy → Type} [FloatOps F] (main_arg0 : IVec S3x768x14336 8) (main_arg1 : FVec F S3x768x112 .f32) (main_arg2 : FVec F S1 .f32) (main_arg3 : FVec F S1x3x768 .f32) (main_arg4 : FVec F S1x3x768 .f32) (main_arg5 : FVec F S14336 .f32) (main_arg6 : FVec F S14336 .f32) : IVec S3x768x14336 1 × IVec S3x768x112 1 × IVec S1 1 × IVec S1x3x768 1 × IVec S1x3x768 1 × IVec S14336 1 × IVec S14336 1 :=
  let main_c : IVec S_ 8 := constantI S_ 8 127#8
  let main_v0 : IVec S3x768x14336 8 := broadcastInDim S3x768x14336 ![] bcast_S_S3x768x14336 main_c
  let main_v1 : IVec S3x768x14336 1 := cmpi .ne main_arg0 main_v0
  let main_c_0 : IVec S_ 8 := constantI S_ 8 255#8
  let main_v2 : IVec S3x768x14336 8 := broadcastInDim S3x768x14336 ![] bcast_S_S3x768x14336 main_c_0
  let main_v3 : IVec S3x768x14336 1 := cmpi .ne main_arg0 main_v2
  let main_v4 : IVec S3x768x14336 1 := andi main_v1 main_v3
  let main_v5 : FVec F S3x768x112 .f32 := Host.absf main_arg1
  let main_cst : FVec F S_ .f32 := constant S_ .f32 0x7F800000#32
  let main_v6 : FVec F S3x768x112 .f32 := broadcastInDim S3x768x112 ![] bcast_S_S3x768x112 main_cst
  let main_v7 : IVec S3x768x112 1 := cmpf .olt main_v5 main_v6
  let main_cst_1 : FVec F S_ .f32 := constant S_ .f32 0x00000000#32
  let main_v8 : FVec F S1 .f32 := broadcastInDim S1 ![] bcast_S_S1 main_cst_1
  let main_v9 : IVec S1 1 := cmpf .oge main_arg2 main_v8
  let main_cst_2 : FVec F S_ .f32 := constant S_ .f32 0x53800000#32
  let main_v10 : FVec F S1 .f32 := broadcastInDim S1 ![] bcast_S_S1 main_cst_2
  let main_v11 : IVec S1 1 := cmpf .ole main_arg2 main_v10
  let main_v12 : IVec S1 1 := andi main_v9 main_v11
  let main_v13 : FVec F S1x3x768 .f32 := Host.absf main_arg3
  let main_cst_3 : FVec F S_ .f32 := constant S_ .f32 0x7F800000#32
  let main_v14 : FVec F S1x3x768 .f32 := broadcastInDim S1x3x768 ![] bcast_S_S1x3x768 main_cst_3
  let main_v15 : IVec S1x3x768 1 := cmpf .olt main_v13 main_v14
  let main_cst_4 : FVec F S_ .f32 := constant S_ .f32 0x00000000#32
  let main_v16 : FVec F S1x3x768 .f32 := broadcastInDim S1x3x768 ![] bcast_S_S1x3x768 main_cst_4
  fn_part1 (F := F) main_arg4 main_arg5 main_arg6 main_v4 main_v7 main_v12 main_v15 main_v16
-- ==== Kernel.lean ====
abbrev S3x768x14336 : Shape := ⟨3, ![3, 768, 14336]⟩
abbrev S3x768x112 : Shape := ⟨3, ![3, 768, 112]⟩
abbrev S1 : Shape := ⟨1, ![1]⟩
abbrev S1x3x768 : Shape := ⟨3, ![1, 3, 768]⟩
abbrev S14336 : Shape := ⟨1, ![14336]⟩
abbrev S3x112x768 : Shape := ⟨3, ![3, 112, 768]⟩
abbrev S3x1x768 : Shape := ⟨3, ![3, 1, 768]⟩
abbrev S112x128 : Shape := ⟨2, ![112, 128]⟩
abbrev S1x256x14336 : Shape := ⟨3, ![1, 256, 14336]⟩
abbrev S1x112x256 : Shape := ⟨3, ![1, 112, 256]⟩
abbrev S1x1x256 : Shape := ⟨3, ![1, 1, 256]⟩
abbrev S14336x256 : Shape := ⟨2, ![14336, 256]⟩
abbrev S14336x128 : Shape := ⟨2, ![14336, 128]⟩
abbrev S112x256 : Shape := ⟨2, ![112, 256]⟩
abbrev S2x112x128 : Shape := ⟨3, ![2, 112, 128]⟩
abbrev S1x128 : Shape := ⟨2, ![1, 128]⟩
abbrev S128x128 : Shape := ⟨2, ![128, 128]⟩
abbrev S16x2048 : Shape := ⟨2, ![16, 2048]⟩
abbrev S1x256x256 : Shape := ⟨3, ![1, 256, 256]⟩
abbrev S256x256 : Shape := ⟨2, ![256, 256]⟩
abbrev S16x256 : Shape := ⟨2, ![16, 256]⟩
abbrev S256 : Shape := ⟨1, ![256]⟩
abbrev S1x256 : Shape := ⟨2, ![1, 256]⟩
abbrev S1x112x128 : Shape := ⟨3, ![1, 112, 128]⟩
abbrev S1x1x128 : Shape := ⟨3, ![1, 1, 128]⟩
abbrev S128 : Shape := ⟨1, ![128]⟩
abbrev S1x128x128 : Shape := ⟨3, ![1, 128, 128]⟩

abbrev nBuf : Space → Nat
  | .hbm => 17
  | .vmem => 25
  | .smem => 1
  | _ => 0

abbrev bufTy : (tb : Table) → Fin (tcTables nBuf tb) → BufTy
  | .hbm, ⟨0, _⟩ => ⟨S3x768x14336, .i8⟩
  | .hbm, ⟨1, _⟩ => ⟨S3x768x112, .f32⟩
  | .hbm, ⟨2, _⟩ => ⟨S1, .f32⟩
  | .hbm, ⟨3, _⟩ => ⟨S1x3x768, .f32⟩
  | .hbm, ⟨4, _⟩ => ⟨S1x3x768, .f32⟩
  | .hbm, ⟨5, _⟩ => ⟨S14336, .f32⟩
  | .hbm, ⟨6, _⟩ => ⟨S14336, .f32⟩
  | .hbm, ⟨7, _⟩ => ⟨S3x768x14336, .fp8e4m3⟩
  | .hbm, ⟨8, _⟩ => ⟨S3x112x768, .f32⟩
  | .hbm, ⟨9, _⟩ => ⟨S3x1x768, .f32⟩
  | .hbm, ⟨10, _⟩ => ⟨S3x1x768, .f32⟩
  | .hbm, ⟨11, _⟩ => ⟨S112x128, .f32⟩
  | .hbm, ⟨12, _⟩ => ⟨S112x128, .f32⟩
  | .hbm, ⟨13, _⟩ => ⟨S3x768x14336, .fp8e4m3⟩
  | .hbm, ⟨14, _⟩ => ⟨S3x112x768, .f32⟩
  | .hbm, ⟨15, _⟩ => ⟨S3x1x768, .f32⟩
  | .hbm, ⟨16, _⟩ => ⟨S3x1x768, .f32⟩
  | .local _ .vmem, ⟨0, _⟩ => ⟨S1x256x14336, .fp8e4m3⟩
  | .local _ .vmem, ⟨1, _⟩ => ⟨S1x256x14336, .fp8e4m3⟩
  | .local _ .vmem, ⟨2, _⟩ => ⟨S1x112x256, .f32⟩
  | .local _ .vmem, ⟨3, _⟩ => ⟨S1x112x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S112x128, .f32⟩
  | .local _ .vmem, ⟨9, _⟩ => ⟨S112x128, .f32⟩
  | .local _ .vmem, ⟨10, _⟩ => ⟨S1x256x14336, .fp8e4m3⟩
  | .local _ .vmem, ⟨11, _⟩ => ⟨S1x256x14336, .fp8e4m3⟩
  | .local _ .vmem, ⟨12, _⟩ => ⟨S1x112x256, .f32⟩
  | .local _ .vmem, ⟨13, _⟩ => ⟨S1x112x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S14336x256, .fp8e4m3⟩
  | .local _ .vmem, ⟨19, _⟩ => ⟨S14336x128, .f32⟩
  | .local _ .vmem, ⟨20, _⟩ => ⟨S14336x128, .f32⟩
  | .local _ .vmem, ⟨21, _⟩ => ⟨S112x256, .f32⟩
  | .local _ .vmem, ⟨22, _⟩ => ⟨S112x256, .f32⟩
  | .local _ .vmem, ⟨23, _⟩ => ⟨S2x112x128, .f32⟩
  | .local _ .vmem, ⟨24, _⟩ => ⟨S2x112x128, .f32⟩
  | .local _ .smem, ⟨0, _⟩ => ⟨S1, .f32⟩
  | _, _ => ⟨S3x768x14336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![3, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_60 : BitVec 32 := 0#32
  let c112_i32 : BitVec 32 := 112#32
  let v120 : BitVec 32 := Scalar.addi c0_i32_60 c112_i32
  let c1_i32_61 : BitVec 32 := 1#32
  ⟨c0_i32_60, v120, c1_i32_61⟩
def k0_mult1 (k0_t1 : Fin k0_t1_loop.trips) : BitVec 32 :=
  let c0_i32_64 : BitVec 32 := 0#32
  let c0_i32_60 : BitVec 32 := 0#32
  let c1_i32_61 : BitVec 32 := 1#32
  let arg20 : BitVec 32 := Scf.iv c0_i32_60 c1_i32_61 k0_t1
  let c1_i32_63 : BitVec 32 := 1#32
  let v121 : BitVec 32 := Scalar.muli arg20 c1_i32_63
  let v122 : BitVec 32 := Scalar.addi c0_i32_64 v121
  let c128_i32_65 : BitVec 32 := 128#32
  let v123 : BitVec 32 := Scalar.muli v122 c128_i32_65
  v123
def k0_off1 (k0_t1 : Fin k0_t1_loop.trips) : Fin 2 → Nat :=
  let c0_i32_64 : BitVec 32 := 0#32
  let c0_i32_60 : BitVec 32 := 0#32
  let c1_i32_61 : BitVec 32 := 1#32
  let arg20 : BitVec 32 := Scf.iv c0_i32_60 c1_i32_61 k0_t1
  let c1_i32_63 : BitVec 32 := 1#32
  let v121 : BitVec 32 := Scalar.muli arg20 c1_i32_63
  let v122 : BitVec 32 := Scalar.addi c0_i32_64 v121
  let v125 : Index := Scalar.indexCast v122
  let c0_66 : Index := 0#32
  ![v125.toNat, 0]
def k0_off2 (k0_t1 : Fin k0_t1_loop.trips) : Fin 2 → Nat :=
  let c0_i32_64 : BitVec 32 := 0#32
  let c0_i32_60 : BitVec 32 := 0#32
  let c1_i32_61 : BitVec 32 := 1#32
  let arg20 : BitVec 32 := Scf.iv c0_i32_60 c1_i32_61 k0_t1
  let c1_i32_63 : BitVec 32 := 1#32
  let v121 : BitVec 32 := Scalar.muli arg20 c1_i32_63
  let v122 : BitVec 32 := Scalar.addi c0_i32_64 v121
  let c128_i32_65 : BitVec 32 := 128#32
  let v123 : BitVec 32 := Scalar.muli v122 c128_i32_65
  let v124 : BitVec 32 := v123
  let v131 : Index := Scalar.indexCast v124
  let c0_67 : Index := 0#32
  ![v131.toNat, 0]
@[reducible] def k0_t2_loop : Scf.Loop 32 :=
  let c0_i32_7 : BitVec 32 := 0#32
  let c7_i32 : BitVec 32 := 7#32
  let v35 : BitVec 32 := Scalar.addi c0_i32_7 c7_i32
  let c1_i32_8 : BitVec 32 := 1#32
  ⟨c0_i32_7, v35, c1_i32_8⟩
def k0_mult2 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32 : BitVec 32 := 2048#32
  let v122 : BitVec 32 := Scalar.muli v121 c2048_i32
  let c0_i32_62 : BitVec 32 := 0#32
  let v123 : BitVec 32 := Scalar.addi v122 c0_i32_62
  v123
def k0_off3 (k0_t2 : Fin k0_t2_loop.trips) (c0_i32_62 : BitVec 32) : Fin 3 → Nat :=
  let c0_63 : Index := 0#32
  let c0_64 : Index := 0#32
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32 : BitVec 32 := 2048#32
  let v122 : BitVec 32 := Scalar.muli v121 c2048_i32
  let v123 : BitVec 32 := Scalar.addi v122 c0_i32_62
  let v124 : BitVec 32 := v123
  let v125 : Index := Scalar.indexCast v124
  ![0, 0, v125.toNat]
def k0_off4 (k0_t2 : Fin k0_t2_loop.trips) (c0_i32_62 : BitVec 32) : Fin 2 → Nat :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32 : BitVec 32 := 2048#32
  let v122 : BitVec 32 := Scalar.muli v121 c2048_i32
  let v123 : BitVec 32 := Scalar.addi v122 c0_i32_62
  let v124 : BitVec 32 := v123
  let v129 : Index := Scalar.indexCast v124
  let c0_65 : Index := 0#32
  ![v129.toNat, 0]
def k0_mult3 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32_68 : BitVec 32 := 2048#32
  let v138 : BitVec 32 := Scalar.muli v121 c2048_i32_68
  let c256_i32 : BitVec 32 := 256#32
  let v139 : BitVec 32 := Scalar.addi v138 c256_i32
  v139
def k0_mult4 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32_74 : BitVec 32 := 2048#32
  let v156 : BitVec 32 := Scalar.muli v121 c2048_i32_74
  let c512_i32 : BitVec 32 := 512#32
  let v157 : BitVec 32 := Scalar.addi v156 c512_i32
  v157
def k0_mult5 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32_80 : BitVec 32 := 2048#32
  let v174 : BitVec 32 := Scalar.muli v121 c2048_i32_80
  let c768_i32 : BitVec 32 := 768#32
  let v175 : BitVec 32 := Scalar.addi v174 c768_i32
  v175
def k0_mult6 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32_86 : BitVec 32 := 2048#32
  let v192 : BitVec 32 := Scalar.muli v121 c2048_i32_86
  let c1024_i32 : BitVec 32 := 1024#32
  let v193 : BitVec 32 := Scalar.addi v192 c1024_i32
  v193
def k0_mult7 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32_92 : BitVec 32 := 2048#32
  let v210 : BitVec 32 := Scalar.muli v121 c2048_i32_92
  let c1280_i32 : BitVec 32 := 1280#32
  let v211 : BitVec 32 := Scalar.addi v210 c1280_i32
  v211
def k0_mult8 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32_98 : BitVec 32 := 2048#32
  let v228 : BitVec 32 := Scalar.muli v121 c2048_i32_98
  let c1536_i32 : BitVec 32 := 1536#32
  let v229 : BitVec 32 := Scalar.addi v228 c1536_i32
  v229
def k0_mult9 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c2048_i32_104 : BitVec 32 := 2048#32
  let v246 : BitVec 32 := Scalar.muli v121 c2048_i32_104
  let c1792_i32 : BitVec 32 := 1792#32
  let v247 : BitVec 32 := Scalar.addi v246 c1792_i32
  v247
def k0_mult10 (k0_t2 : Fin k0_t2_loop.trips) : BitVec 32 :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c16_i32 : BitVec 32 := 16#32
  let v264 : BitVec 32 := Scalar.muli v121 c16_i32
  v264
def k0_off5 (k0_t2 : Fin k0_t2_loop.trips) : Fin 2 → Nat :=
  let c0_i32_61 : BitVec 32 := 0#32
  let c0_i32_7 : BitVec 32 := 0#32
  let c1_i32_8 : BitVec 32 := 1#32
  let arg20 : BitVec 32 := Scf.iv c0_i32_7 c1_i32_8 k0_t2
  let c1_i32_60 : BitVec 32 := 1#32
  let v120 : BitVec 32 := Scalar.muli arg20 c1_i32_60
  let v121 : BitVec 32 := Scalar.addi c0_i32_61 v120
  let c16_i32 : BitVec 32 := 16#32
  let v264 : BitVec 32 := Scalar.muli v121 c16_i32
  let v265 : BitVec 32 := v264
  let v266 : Index := Scalar.indexCast v265
  let c0_110 : Index := 0#32
  ![v266.toNat, 0]
@[reducible] def k0_t3_loop : Scf.Loop 32 :=
  let c0_i32_44 : BitVec 32 := 0#32
  let c28_i32 : BitVec 32 := 28#32
  let v105 : BitVec 32 := Scalar.addi c0_i32_44 c28_i32
  let c1_i32_45 : BitVec 32 := 1#32
  ⟨c0_i32_44, v105, c1_i32_45⟩
def k0_mult11 (k0_t3 : Fin k0_t3_loop.trips) : BitVec 32 :=
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32 : BitVec 32 := 4#32
  let v122 : BitVec 32 := Scalar.muli v121 c4_i32
  let c0_i32_62 : BitVec 32 := 0#32
  let v123 : BitVec 32 := Scalar.addi v122 c0_i32_62
  let c128_i32_63 : BitVec 32 := 128#32
  let v124 : BitVec 32 := Scalar.muli v123 c128_i32_63
  v124
def k0_off6 (k0_t3 : Fin k0_t3_loop.trips) (c0_i32_62 : BitVec 32) : Fin 2 → Nat :=
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32 : BitVec 32 := 4#32
  let v122 : BitVec 32 := Scalar.muli v121 c4_i32
  let v123 : BitVec 32 := Scalar.addi v122 c0_i32_62
  let c128_i32_63 : BitVec 32 := 128#32
  let v124 : BitVec 32 := Scalar.muli v123 c128_i32_63
  let v125 : BitVec 32 := v124
  let v126 : Index := Scalar.indexCast v125
  let c0_64 : Index := 0#32
  ![v126.toNat, 0]
def k0_off7 (k0_t3 : Fin k0_t3_loop.trips) (c0_i32_62 : BitVec 32) : Fin 2 → Nat :=
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32 : BitVec 32 := 4#32
  let v122 : BitVec 32 := Scalar.muli v121 c4_i32
  let v123 : BitVec 32 := Scalar.addi v122 c0_i32_62
  let c128_i32_63 : BitVec 32 := 128#32
  let v124 : BitVec 32 := Scalar.muli v123 c128_i32_63
  let v125 : BitVec 32 := v124
  let v130 : Index := Scalar.indexCast v125
  let c0_66 : Index := 0#32
  ![v130.toNat, 0]
def k0_off8 (k0_t3 : Fin k0_t3_loop.trips) (c0_i32_62 : BitVec 32) : Fin 3 → Nat :=
  let c0_67 : Index := 0#32
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32 : BitVec 32 := 4#32
  let v122 : BitVec 32 := Scalar.muli v121 c4_i32
  let v123 : BitVec 32 := Scalar.addi v122 c0_i32_62
  let v133 : Index := Scalar.indexCast v123
  let c0_68 : Index := 0#32
  ![0, v133.toNat, 0]
def k0_off9 (k0_t3 : Fin k0_t3_loop.trips) (c0_i32_62 : BitVec 32) : Fin 3 → Nat :=
  let c0_77 : Index := 0#32
  let c0_78 : Index := 0#32
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32 : BitVec 32 := 4#32
  let v122 : BitVec 32 := Scalar.muli v121 c4_i32
  let v123 : BitVec 32 := Scalar.addi v122 c0_i32_62
  let c128_i32_63 : BitVec 32 := 128#32
  let v124 : BitVec 32 := Scalar.muli v123 c128_i32_63
  let v125 : BitVec 32 := v124
  let v208 : Index := Scalar.indexCast v125
  ![0, 0, v208.toNat]
def k0_off10 (k0_t3 : Fin k0_t3_loop.trips) (c0_i32_62 : BitVec 32) : Fin 2 → Nat :=
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32 : BitVec 32 := 4#32
  let v122 : BitVec 32 := Scalar.muli v121 c4_i32
  let v123 : BitVec 32 := Scalar.addi v122 c0_i32_62
  let c128_i32_63 : BitVec 32 := 128#32
  let v124 : BitVec 32 := Scalar.muli v123 c128_i32_63
  let v125 : BitVec 32 := v124
  let v212 : Index := Scalar.indexCast v125
  let c128_79 : Index := 128#32
  ![v212.toNat, 128]
def k0_off11 (k0_t3 : Fin k0_t3_loop.trips) (c0_i32_62 : BitVec 32) : Fin 3 → Nat :=
  let c1_80 : Index := 1#32
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32 : BitVec 32 := 4#32
  let v122 : BitVec 32 := Scalar.muli v121 c4_i32
  let v123 : BitVec 32 := Scalar.addi v122 c0_i32_62
  let v215 : Index := Scalar.indexCast v123
  let c0_81 : Index := 0#32
  ![1, v215.toNat, 0]
def k0_off12 (k0_t3 : Fin k0_t3_loop.trips) (c0_i32_62 : BitVec 32) : Fin 3 → Nat :=
  let c0_100 : Index := 0#32
  let c128_101 : Index := 128#32
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32 : BitVec 32 := 4#32
  let v122 : BitVec 32 := Scalar.muli v121 c4_i32
  let v123 : BitVec 32 := Scalar.addi v122 c0_i32_62
  let c128_i32_63 : BitVec 32 := 128#32
  let v124 : BitVec 32 := Scalar.muli v123 c128_i32_63
  let v125 : BitVec 32 := v124
  let v290 : Index := Scalar.indexCast v125
  ![0, 128, v290.toNat]
def k0_mult12 (k0_t3 : Fin k0_t3_loop.trips) : BitVec 32 :=
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32_102 : BitVec 32 := 4#32
  let v294 : BitVec 32 := Scalar.muli v121 c4_i32_102
  let c1_i32_103 : BitVec 32 := 1#32
  let v295 : BitVec 32 := Scalar.addi v294 c1_i32_103
  let c128_i32_104 : BitVec 32 := 128#32
  let v296 : BitVec 32 := Scalar.muli v295 c128_i32_104
  v296
def k0_mult13 (k0_t3 : Fin k0_t3_loop.trips) : BitVec 32 :=
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32_153 : BitVec 32 := 4#32
  let v466 : BitVec 32 := Scalar.muli v121 c4_i32_153
  let c2_i32 : BitVec 32 := 2#32
  let v467 : BitVec 32 := Scalar.addi v466 c2_i32
  let c128_i32_154 : BitVec 32 := 128#32
  let v468 : BitVec 32 := Scalar.muli v467 c128_i32_154
  v468
def k0_mult14 (k0_t3 : Fin k0_t3_loop.trips) : BitVec 32 :=
  let c0_i32_61 : BitVec 32 := 0#32
  let c0_i32_44 : BitVec 32 := 0#32
  let c1_i32_45 : BitVec 32 := 1#32
  let arg20 : BitVec 32 := Scf.iv c0_i32_44 c1_i32_45 k0_t3
  let c1_i32_60 : BitVec 32 := 1#32
  let v120 : BitVec 32 := Scalar.muli arg20 c1_i32_60
  let v121 : BitVec 32 := Scalar.addi c0_i32_61 v120
  let c4_i32_203 : BitVec 32 := 4#32
  let v638 : BitVec 32 := Scalar.muli v121 c4_i32_203
  let c3_i32 : BitVec 32 := 3#32
  let v639 : BitVec 32 := Scalar.addi v638 c3_i32
  let c128_i32_204 : BitVec 32 := 128#32
  let v640 : BitVec 32 := Scalar.muli v639 c128_i32_204
  v640
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x14336 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x14336 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x112x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S3x768x14336 : Shape := ⟨3, ![3, 768, 14336]⟩
abbrev S3x768x112 : Shape := ⟨3, ![3, 768, 112]⟩
abbrev S1 : Shape := ⟨1, ![1]⟩
abbrev S1x3x768 : Shape := ⟨3, ![1, 3, 768]⟩
abbrev S14336 : Shape := ⟨1, ![14336]⟩
abbrev S3x112x768 : Shape := ⟨3, ![3, 112, 768]⟩
abbrev S3x1x768 : Shape := ⟨3, ![3, 1, 768]⟩
abbrev S3x768x112x128 : Shape := ⟨4, ![3, 768, 112, 128]⟩
abbrev S3x768x112x1 : Shape := ⟨4, ![3, 768, 112, 1]⟩
abbrev S3x768 : Shape := ⟨2, ![3, 768]⟩
abbrev S3x768x1x1 : Shape := ⟨4, ![3, 768, 1, 1]⟩
abbrev S112x128 : Shape := ⟨2, ![112, 128]⟩
abbrev S1x1x112x128 : Shape := ⟨4, ![1, 1, 112, 128]⟩

abbrev nBuf : Space → Nat
  | .hbm => 12
  | .vmem => 10
  | .smem => 1
  | _ => 0

abbrev bufTy : (tb : Table) → Fin (tcTables nBuf tb) → BufTy
  | .hbm, ⟨0, _⟩ => ⟨S3x768x14336, .i8⟩
  | .hbm, ⟨1, _⟩ => ⟨S3x768x112, .f32⟩
  | .hbm, ⟨2, _⟩ => ⟨S1, .f32⟩
  | .hbm, ⟨3, _⟩ => ⟨S1x3x768, .f32⟩
  | .hbm, ⟨4, _⟩ => ⟨S1x3x768, .f32⟩
  | .hbm, ⟨5, _⟩ => ⟨S14336, .f32⟩
  | .hbm, ⟨6, _⟩ => ⟨S14336, .f32⟩
  | .hbm, ⟨7, _⟩ => ⟨S3x768x14336, .fp8e4m3⟩
  | .hbm, ⟨8, _⟩ => ⟨S3x768x14336, .fp8e4m3⟩
  | .hbm, ⟨9, _⟩ => ⟨S3x112x768, .f32⟩
  | .hbm, ⟨10, _⟩ => ⟨S3x1x768, .f32⟩
  | .hbm, ⟨11, _⟩ => ⟨S3x1x768, .f32⟩
  | .local _ .vmem, ⟨0, _⟩ => ⟨S3x768x14336, .fp8e4m3⟩
  | .local _ .vmem, ⟨1, _⟩ => ⟨S3x768x112, .f32⟩
  | .local _ .vmem, ⟨2, _⟩ => ⟨S1x3x768, .f32⟩
  | .local _ .vmem, ⟨3, _⟩ => ⟨S1x3x768, .f32⟩
  | .local _ .vmem, ⟨4, _⟩ => ⟨S14336, .f32⟩
  | .local _ .vmem, ⟨5, _⟩ => ⟨S14336, .f32⟩
  | .local _ .vmem, ⟨6, _⟩ => ⟨S3x768x14336, .fp8e4m3⟩
  | .local _ .vmem, ⟨7, _⟩ => ⟨S3x112x768, .f32⟩
  | .local _ .vmem, ⟨8, _⟩ => ⟨S3x1x768, .f32⟩
  | .local _ .vmem, ⟨9, _⟩ => ⟨S3x1x768, .f32⟩
  | .local _ .smem, ⟨0, _⟩ => ⟨S1, .f32⟩
  | _, _ => ⟨S3x768x14336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x768x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x768x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x768x14336 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x112x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KRuns.lean ====
/-
What the runs of the printed kernel share: the arrays as the region finds them, the blocks of its windows, the condition of
its branch, and the staging and scratch buffers.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`) recurses once per coordinate
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((hA c 0).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 3 % 3 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 9 = 0)

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x14336 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x112x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S112x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S112x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x14336 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x112x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S14336x256 .fp8e4m3 := Memref.whole cc0_scratch0
abbrev scM0_1 : Memref sig .tc .vmem S14336x128 .f32 := Memref.whole cc0_scratch1
abbrev scM0_2 : Memref sig .tc .vmem S14336x128 .f32 := Memref.whole cc0_scratch2
abbrev scM0_3 : Memref sig .tc .vmem S112x256 .f32 := Memref.whole cc0_scratch3
abbrev scM0_4 : Memref sig .tc .vmem S112x256 .f32 := Memref.whole cc0_scratch4
abbrev scM0_5 : Memref sig .tc .vmem S2x112x128 .f32 := Memref.whole cc0_scratch5
abbrev scM0_6 : Memref sig .tc .vmem S2x112x128 .f32 := Memref.whole cc0_scratch6
/-- The scratch `arg14` the kernel carries between points, as a view: what it holds is stated through it. -/
abbrev VS0_1 : View sig .tc .vmem S14336x128 .f32 := scM0_1.view
/-- The scratch `arg15` the kernel carries between points, as a view: what it holds is stated through it. -/
abbrev VS0_2 : View sig .tc .vmem S14336x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Run

end
-- ==== Proof.KRunA.lean ====
/-
The printed kernel's body, run at the first point of its grid.
-/
module

public import proofs.«01_k».proof.Proof.KRuns

@[expose] public section

-- membership in a rectangle of long sides (`View.cover_of_tiled`) recurses once per coordinate
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9, 10) at anything, handed back at some contents nothing names. -/
noncomputable def kernelRun0_A (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : cond0_0 i)
    (x0 : Vec F S1 .f32) (x1 : Vec F S1x256x14336 .fp8e4m3) (x2 : Vec F S1x112x256 .f32) (x3 : Vec F S1x1x256 .f32) (x4 : Vec F S1x1x256 .f32) (x5 : Vec F S112x128 .f32) (x6 : Vec F S112x128 .f32) :
    Σ' (LS1 : List (View.Piece (Elt F) S14336x128 .f32)), { LS2 : List (View.Piece (Elt F) S14336x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_layernorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_layernorm_fp8_eq_skeleton]; unfold cc0_layernorm_fp8_skel
    simp only [k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Run

end
-- ==== Proof.KRunB.lean ====
/-
The printed kernel's body, run at a later point of its grid.
-/
module

public import proofs.«01_k».proof.Proof.KRunA

@[expose] public section

-- membership in a rectangle of long sides (`View.cover_of_tiled`) recurses once per coordinate
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 8: 8 of 9), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9, 10) at anything, handed back at some contents nothing names. -/
noncomputable def kernelRun0_B (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : ¬cond0_0 i)
    (x0 : Vec F S1 .f32) (x1 : Vec F S1x256x14336 .fp8e4m3) (x2 : Vec F S1x112x256 .f32) (x3 : Vec F S1x1x256 .f32) (x4 : Vec F S1x1x256 .f32) (x5 : Vec F S112x128 .f32) (x6 : Vec F S112x128 .f32) (xs1 : Vec F S14336x128 .f32) (xs2 : Vec F S14336x128 .f32) :
    Σ' (LS1 : List (View.Piece (Elt F) S14336x128 .f32)), { LS2 : List (View.Piece (Elt F) S14336x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs1 ∗ owns (c : Thread nD τ) arg15 fullShare xs2 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_layernorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], [], fun E K => ?run⟩
  case run =>
    simp only [cc0_layernorm_fp8_eq_skeleton]; unfold cc0_layernorm_fp8_skel
    simp only [k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hfs1; obtain rfl := harg15.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _; isplitr; · ipureintro; exact harg14.read_unread _
      iexact HS1
    isplitl [HS2]
    · iexists _; isplitr; · ipureintro; exact harg15.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Run

end
-- ==== Proof.KFrame.lean ====
/-
The frame of the printed kernel: it terminates, leaves its arguments as they were, and every counter ends at zero.
-/
module

public import proofs.«01_k».proof.Proof.KRunB
public import Idealize.ShloMosaic.Lib.Claim

@[expose] public section

-- membership in a rectangle of long sides (`View.cover_of_tiled`) recurses once per coordinate
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg14`, which the kernel carries between points, cover it: 112 pieces of `S128x128` tiling it (Lib/Ring.lean `Piece.tiledL`). -/
theorem scover0_A_1 (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : cond0_0 i)
    (x0 : Vec F S1 .f32) (x1 : Vec F S1x256x14336 .fp8e4m3) (x2 : Vec F S1x112x256 .f32) (x3 : Vec F S1x1x256 .f32) (x4 : Vec F S1x1x256 .f32) (x5 : Vec F S112x128 .f32) (x6 : Vec F S112x128 .f32) (y : S14336x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).1 S128x128.size (by sl_kernel_rfl) y

/-- What case A leaves in scratch `arg14`: its pieces read back over junk. -/
def sout0_A_1 (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : cond0_0 i)
    (x0 : Vec F S1 .f32) (x1 : Vec F S1x256x14336 .fp8e4m3) (x2 : Vec F S1x112x256 .f32) (x3 : Vec F S1x1x256 .f32) (x4 : Vec F S1x1x256 .f32) (x5 : Vec F S112x128 .f32) (x6 : Vec F S112x128 .f32) : Vec F S14336x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).1)

/-- Case A's pieces for scratch `arg15`, which the kernel carries between points, cover it: 112 pieces of `S128x128` tiling it (Lib/Ring.lean `Piece.tiledL`). -/
theorem scover0_A_2 (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : cond0_0 i)
    (x0 : Vec F S1 .f32) (x1 : Vec F S1x256x14336 .fp8e4m3) (x2 : Vec F S1x112x256 .f32) (x3 : Vec F S1x1x256 .f32) (x4 : Vec F S1x1x256 .f32) (x5 : Vec F S112x128 .f32) (x6 : Vec F S112x128 .f32) (y : S14336x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.1 S128x128.size (by sl_kernel_rfl) y

/-- What case A leaves in scratch `arg15`: its pieces read back over junk. -/
def sout0_A_2 (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : cond0_0 i)
    (x0 : Vec F S1 .f32) (x1 : Vec F S1x256x14336 .fp8e4m3) (x2 : Vec F S1x112x256 .f32) (x3 : Vec F S1x1x256 .f32) (x4 : Vec F S1x1x256 .f32) (x5 : Vec F S112x128 .f32) (x6 : Vec F S112x128 .f32) : Vec F S14336x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.1)

/-- Case B stores nothing into scratch `arg14`: it holds what the point before left. -/
def sout0_B_1 (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : ¬cond0_0 i)
    (x0 : Vec F S1 .f32) (x1 : Vec F S1x256x14336 .fp8e4m3) (x2 : Vec F S1x112x256 .f32) (x3 : Vec F S1x1x256 .f32) (x4 : Vec F S1x1x256 .f32) (x5 : Vec F S112x128 .f32) (x6 : Vec F S112x128 .f32) (xs1 : Vec F S14336x128 .f32) (xs2 : Vec F S14336x128 .f32) : Vec F S14336x128 .f32 := xs1

/-- Case B stores nothing into scratch `arg15`: it holds what the point before left. -/
def sout0_B_2 (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : ¬cond0_0 i)
    (x0 : Vec F S1 .f32) (x1 : Vec F S1x256x14336 .fp8e4m3) (x2 : Vec F S1x112x256 .f32) (x3 : Vec F S1x1x256 .f32) (x4 : Vec F S1x1x256 .f32) (x5 : Vec F S112x128 .f32) (x6 : Vec F S112x128 .f32) (xs1 : Vec F S14336x128 .f32) (xs2 : Vec F S14336x128 .f32) : Vec F S14336x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S14336x128 .f32 × Vec F S14336x128 .f32
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 9 = 0 then
      (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 9 = 0) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 9 = 0) :
    outsAt0 m c t.val t.isLt = (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ owns (c : Thread nD τ) scM0_2 fullShare ((outsAt0 m c (n - 1) (by omega)).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The output windows this certificate FORGETS (7, 8, 9, 10): nothing reads what the kernel leaves in them, so nothing
    of it is named (Lib/Pipeline/Dat.lean `Dat.toRForget`). -/
def forgets0 : Fin 11 → Bool := fun w => w.val == 7 || w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases hz : t.val = 0
    · rw [PhiS_castSucc m c t, PhiS_zero m c _ _ hz, PhiA0_eq]
      rw [outsAt0_A m c t h0]
      unfold sout0_A_1 sout0_A_2; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, HS0, ⟨%es1, HS1⟩, ⟨%es2, HS2⟩, HS3, HS4, HS5, HS6⟩
      isplitl [HS0 HS1 HS2 HS3 HS4 HS5 HS6 Hg]
      · isplitl [HS0 HS1 HS2 HS3 HS4 HS5 HS6]
        · isplitl [HS0]
          · iexact HS0
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _)
          isplitl [HS3]
          · iexact HS3
          isplitl [HS4]
          · iexact HS4
          isplitl [HS5]
          · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; have hN : t.val < 9 := lt_of_lt_of_eq t.isLt (show cfg0.N = 9 from N_0); omega
  · by_cases hz : t.val = 0
    · exfalso; have hN : t.val < 9 := lt_of_lt_of_eq t.isLt (show cfg0.N = 9 from N_0); omega
    · rw [PhiS_castSucc m c t, PhiS_pos m c _ _ hz]
      rw [outsAt0_B m c t h0]
      unfold sout0_B_1 sout0_B_2; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, HS0, HS1, HS2, HS3, HS4, HS5, HS6⟩
      isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexists _; iexact HS1
    isplitl [HS2]
    · iexists _; iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.Pieces.lean ====
/- Lists of pieces written into a buffer, all read off one function of the buffer's indices. -/
module

public import proofs.«01_k».proof.Proof.Gen.KernelIdeal.Loops
public import Idealize.ShloMosaic.Lib.Writes
public import Idealize.ShloMosaic.Lib.Pointwise

@[expose] public section

noncomputable section

namespace Cert.KernelIdeal.Val

open Idealize.ShloMosaic Idealize.ShloMosaic.TcCoe

/-- A load through a unit-stride rectangle, at an index, is the buffer at the offset index. -/
theorem readAt_unit_at {s : Shape} {e : EltTy} {sp : Space} (v : View sig .tc sp s e) (X : BufTy.Contents (Elt Ideal) v.ty)
    (off sz : Fin s.rank → ℕ) (inb : ∀ a, off a + sz a ≤ s.size a) {off' : Fin s.rank → ℕ} (hoff : off = off')
    (x : (Rect.unit (s := s) off sz inb).shape.Idx) (y : s.Idx) (hy : ∀ a, (y a).val = off' a + (x a).val) :
    v.readAt (Elt Ideal) (Rect.unit (s := s) off sz inb).toLoadRect X x = v.read (Elt Ideal) X y := by
  subst hoff
  have : (Rect.unit (s := s) off sz inb).emb x = y := by
    funext a
    apply Fin.ext
    rw [hy a, Rect.emb_apply]
    show off a + 1 * (x a).val = _
    rw [Nat.one_mul]
  rw [← this]
  rfl

variable {s : Shape} {e : EltTy}

/-- The payload `w` over the rectangle `r` is `G` there. -/
def GoodAt (G : s.Idx → Elt Ideal e) (r : Rect s) (w : r.shape.Idx → Elt Ideal e) : Prop := ∀ x, w x = G (r.emb x)

/-- Every piece of the list is `G` on its rectangle. -/
def Good (G : s.Idx → Elt Ideal e) (L : List (View.Piece (Elt Ideal) s e)) : Prop := ∀ p ∈ L, GoodAt G p.1 p.2

theorem Good.nil {G : s.Idx → Elt Ideal e} : Good G [] := fun _ hp => absurd hp List.not_mem_nil

theorem Good.cons {G : s.Idx → Elt Ideal e} {r : Rect s} {w : r.shape.Idx → Elt Ideal e} {L : List (View.Piece (Elt Ideal) s e)}
    (h : GoodAt G r w) (hL : Good G L) : Good G (⟨r, w⟩ :: L) := by
  intro p hp
  rcases List.mem_cons.mp hp with rfl | hp
  · exact h
  · exact hL p hp

theorem Good.append {G : s.Idx → Elt Ideal e} {L L' : List (View.Piece (Elt Ideal) s e)} (h : Good G L) (h' : Good G L') :
    Good G (L ++ L') := fun p hp => (List.mem_append.mp hp).elim (h p) (h' p)

theorem goodAt_unit (G : s.Idx → Elt Ideal e) (off sz : Fin s.rank → ℕ) (inb : ∀ a, off a + sz a ≤ s.size a)
    {off' : Fin s.rank → ℕ} (hoff : off = off') (w : (Rect.unit (s := s) off sz inb).shape.Idx → Elt Ideal e)
    (h : ∀ (x : (Rect.unit (s := s) off sz inb).shape.Idx) (y : s.Idx), (∀ a, (y a).val = off' a + (x a).val) → w x = G y) :
    GoodAt G (Rect.unit (s := s) off sz inb) w := fun x => h x _ fun a => by
  subst hoff
  rw [Rect.emb_apply]
  show off a + 1 * (x a).val = _
  rw [Nat.one_mul]

end Cert.KernelIdeal.Val

end

end
-- ==== Proof.Loop1.lean ====
/- The kernel's first step: what its 112 trips leave in the two scratches of broadcast weights. -/
module

public import proofs.«01_k».proof.Proof.Pieces

@[expose] public section

set_option maxRecDepth 16384

noncomputable section

namespace Cert.KernelIdeal.Val

open Idealize.ShloMosaic Idealize.ShloMosaic.TcCoe Cert.KernelIdeal.Gen

/-- A row of weights, one channel to a row, copied along the columns. -/
def GT (g : S112x128.Idx → EReal) : S14336x128.Idx → EReal := fun j =>
  g (ix2 ⟨(j 0).val / 128, Nat.div_lt_of_lt_mul (j 0).isLt⟩ ⟨(j 0).val % 128, Nat.mod_lt _ (by decide)⟩)

theorem trips1 : k0_t1_loop.trips = 112 := by decide +kernel

theorem pay98_apply (w : FVec Ideal S1x128 .f32) (i l : Fin 128) : k0_pay98 (F := Ideal) w (ix2 i l) = w (ix2 0 i) := by
  pointwise [k0_pay98]

theorem pay99_apply (w : FVec Ideal S1x128 .f32) (i l : Fin 128) : k0_pay99 (F := Ideal) w (ix2 i l) = w (ix2 0 i) := by
  pointwise [k0_pay99]

section run1

variable (𝒱 : Variants) (c : Dev nD) (bd : Option 𝒱.V) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole)
  (h1 : k0_cond1 i = 1#1) (X7 : BufTy.Contents (Elt Ideal) arg7.view.ty) (X8 : BufTy.Contents (Elt Ideal) arg8.view.ty)

theorem good1 (v : Memref sig .tc .vmem S112x128 .f32) (X : BufTy.Contents (Elt Ideal) v.view.ty) (k : Fin k0_t1_loop.trips)
    (w : FVec Ideal S1x128 .f32 → FVec Ideal S128x128 .f32) (hw : ∀ u i l, w u (ix2 i l) = u (ix2 0 i)) :
    GoodAt (e := .f32) (GT (v.view.read (Elt Ideal) X))
      (Rect.unit (s := S14336x128) (k0_off2 k) S128x128.size (k0_off2_inb i k h1))
      (w (v.view.readAt (Elt Ideal) (Rect.unit (s := S112x128) (k0_off1 k) S1x128.size (k0_off1_inb i k h1)).toLoadRect X)) := by
  refine goodAt_unit _ _ _ _ (k0_off2_eq k) _ fun x y hy => ?_
  obtain ⟨x0, x1, rfl⟩ : ∃ (a b : Fin 128), x = ix2 a b := ⟨x 0, x 1, eq_ix2 x⟩
  have e0 : (y 0).val = 128 * k.val + x0.val := hy 0
  rw [hw]
  refine readAt_unit_at _ _ _ _ _ (k0_off1_eq k) _ _ fun a => ?_
  match a with
  | 0 => show (y 0).val / 128 = k.val + 0; omega
  | 1 => show (y 0).val % 128 = 0 + x0.val; omega

theorem trip1_good (k : Fin k0_t1_loop.trips) :
    Good (e := .f32) (GT (arg7.view.read (Elt Ideal) X7)) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 k).1
    ∧ Good (e := .f32) (GT (arg8.view.read (Elt Ideal) X8)) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 k).2 := by
  unfold tripL_k0_t1 trip_k0_t1
  exact ⟨.cons (good1 i h1 arg7 X7 k _ pay98_apply) .nil, .cons (good1 i h1 arg8 X8 k _ pay99_apply) .nil⟩

theorem pb1_good (n : ℕ) (hn : n ≤ k0_t1_loop.trips) :
    Good (e := .f32) (GT (arg7.view.read (Elt Ideal) X7)) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 n).1
    ∧ Good (e := .f32) (GT (arg8.view.read (Elt Ideal) X8)) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 n).2 := by
  induction n with
  | zero => exact ⟨.nil, .nil⟩
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 ⟨n, hn⟩]
    obtain ⟨a, b⟩ := trip1_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 ⟨n, hn⟩
    obtain ⟨a', b'⟩ := ih (Nat.le_of_succ_le hn)
    exact ⟨a.append a', b.append b'⟩

theorem pb1_mono (k : Fin k0_t1_loop.trips) (n : ℕ) (hk : k.val < n) (hn : n ≤ k0_t1_loop.trips) :
    (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 k).1, p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 n).1)
    ∧ (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 k).2, p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 n).2) := by
  induction n with
  | zero => exact absurd hk (Nat.not_lt_zero _)
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 ⟨n, hn⟩]
    rcases Nat.lt_succ_iff_lt_or_eq.mp hk with h | h
    · obtain ⟨a, b⟩ := ih h (Nat.le_of_succ_le hn)
      exact ⟨fun p hp => List.mem_append_right _ (a p hp), fun p hp => List.mem_append_right _ (b p hp)⟩
    · obtain rfl : k = ⟨n, hn⟩ := Fin.ext h
      exact ⟨fun p hp => List.mem_append_left _ hp, fun p hp => List.mem_append_left _ hp⟩

theorem mem1 (k : Fin k0_t1_loop.trips) (y : S14336x128.Idx) (hy : (y 0).val / 128 = k.val) :
    y ∈ (Rect.unit (s := S14336x128) (k0_off2 k) S128x128.size (k0_off2_inb i k h1)).set := by
  have y1 : (y 1).val < 128 := (y 1).isLt
  rw [Rect.mem_set_unit]; intro a; rw [k0_off2_eq]
  match a with
  | 0 => exact ⟨by show 128 * k.val ≤ (y 0).val; omega, by show (y 0).val < 128 * k.val + 128; omega⟩
  | 1 => exact ⟨Nat.zero_le _, by show (y 1).val < 0 + 128; omega⟩

theorem trip1_cover (k : Fin k0_t1_loop.trips) (y : S14336x128.Idx) (hy : (y 0).val / 128 = k.val) :
    (∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 k).1, y ∈ p.1.set)
    ∧ (∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 k).2, y ∈ p.1.set) := by
  unfold tripL_k0_t1 trip_k0_t1
  exact ⟨⟨_, List.Mem.head _, mem1 i h1 k y hy⟩, ⟨_, List.Mem.head _, mem1 i h1 k y hy⟩⟩

/-- After the step the first scratch holds the scale's weights. -/
theorem read_gt (G : BufTy.Contents (Elt Ideal) arg14.view.ty) :
    arg14.view.read (Elt Ideal) (arg14.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 k0_t1_loop.trips).1)
      = GT (arg7.view.read (Elt Ideal) X7) := by
  funext y
  have h2 : (y 0).val < 14336 := (y 0).isLt
  refine View.read_writes_apply_of_pieces _ _ _ _ (pb1_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 _ le_rfl).1 y ?_
  obtain ⟨p, hp, hy⟩ := (trip1_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 ⟨(y 0).val / 128, by rw [trips1]; omega⟩ y rfl).1
  exact ⟨p, (pb1_mono 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 _ _ (Fin.isLt _) le_rfl).1 p hp, hy⟩

/-- After the step the second scratch holds the shift's weights. -/
theorem read_bt (G : BufTy.Contents (Elt Ideal) arg15.view.ty) :
    arg15.view.read (Elt Ideal) (arg15.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 k0_t1_loop.trips).2)
      = GT (arg8.view.read (Elt Ideal) X8) := by
  funext y
  have h2 : (y 0).val < 14336 := (y 0).isLt
  refine View.read_writes_apply_of_pieces _ _ _ _ (pb1_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 _ le_rfl).2 y ?_
  obtain ⟨p, hp, hy⟩ := (trip1_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 ⟨(y 0).val / 128, by rw [trips1]; omega⟩ y rfl).2
  exact ⟨p, (pb1_mono 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 X7 X8 _ _ (Fin.isLt _) le_rfl).2 p hp, hy⟩

end run1

end Cert.KernelIdeal.Val

end

end
-- ==== Proof.Sel.lean ====
/- One step of the kernel's first pass - 2048 channels by 256 rows - read at an index: the transposed codes and the sums
   over blocks of 128 channels, taken as products with a 0/1 matrix. -/
module

public import proofs.«01_k».proof.Proof.Gen.KernelIdeal.Loops
public import Idealize.ShloMosaic.Lib.Pointwise

@[expose] public section

set_option maxRecDepth 16384

noncomputable section

namespace Cert.KernelIdeal.Val

open Idealize.ShloMosaic Idealize.ShloMosaic.TcCoe Cert.KernelIdeal.Gen

/-- The 0/1 matrix's word at a row and a column: whether the column's block of 128 is the row. -/
def selW (r : Fin 16) (c : Fin 2048) : BitVec 32 :=
  BitVec.setWidth 32
    (IntOp.cmpi CmpIPredicate.eq (BitVec.ofNat 32 ↑r)
      (Scalar.select
        (IntOp.andi
          (IntOp.cmpi CmpIPredicate.ne
            (IntOp.subi (BitVec.setWidth 32 (IntOp.cmpi CmpIPredicate.sgt (BitVec.ofNat 32 ↑c) 0#32))
              (BitVec.setWidth 32 (IntOp.cmpi CmpIPredicate.slt (BitVec.ofNat 32 ↑c) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 ↑c) 128#32) 0#32))
        (IntOp.subi (IntOp.divsi ArithUnit.vector (BitVec.ofNat 32 ↑c) 128#32) 1#32)
        (IntOp.divsi ArithUnit.vector (BitVec.ofNat 32 ↑c) 128#32)))

theorem selW_eq : ∀ r : Fin 16, ∀ c : Fin 2048, selW r c = if c.val / 128 = r.val then 1#32 else 0#32 := by
  decide +kernel

theorem sel_apply (r : Fin 16) (c : Fin 2048) : k0_pay100 (F := Ideal) (ix2 r c) = if c.val / 128 = r.val then 1 else 0 := by
  have h : k0_pay100 (F := Ideal) (ix2 r c) = (((selW r c).toInt : ℝ) : EReal) := by
    pointwise [k0_pay100]
    rfl
  rw [h, selW_eq]
  by_cases hc : c.val / 128 = r.val
  · rw [if_pos hc, if_pos hc]; norm_num
  · rw [if_neg hc, if_neg hc]; norm_num

/-- A block of codes, channels along the first axis. -/
def xT (w : FVec Ideal S1x256x256 .fp8e4m3) : FVec Ideal S256x256 .fp8e4m3 :=
  transpose S256x256 [1, 0] (shapeCast S256x256 w shapeCasts_S1x256x256_S256x256) transposes_S256x256_p1_0_S256x256

theorem xT_apply (w : FVec Ideal S1x256x256 .fp8e4m3) (a b : Fin 256) : xT w (ix2 a b) = w (ix3 0 b a) := by
  pointwise [xT]

/-- The product of 256 columns of the 0/1 matrix with a block. -/
def mm (o : ℕ) (h : S16x2048.Slices ![0, o] S16x256) (y : FVec Ideal S256x256 .bf16) : FVec Ideal S16x256 .f32 :=
  matmul dot_S16x256_S256x256_S16x256_1_0_0_1_n_n none
    (extractStridedSlice S16x256 ![0, o] (k0_pay100 (F := Ideal)) h) y (constant S16x256 .f32 0x00000000#32)

theorem mm_apply (o : ℕ) (h : S16x2048.Slices ![0, o] S16x256) (y : FVec Ideal S256x256 .bf16) (r : Fin 16) (l : Fin 256) :
    mm o h y (ix2 r l) = ∑ k : Fin 256, (if (o + k.val) / 128 = r.val then 1 else 0) * y (ix2 k l) := by
  pointwise [mm]
  refine Finset.sum_congr rfl fun k _ => ?_
  rw [sel_apply]

/-- A block's values, widened, and their squares. -/
def x1 (w : FVec Ideal S1x256x256 .fp8e4m3) : FVec Ideal S256x256 .bf16 := extf .bf16 (xT w) bitsLt_fp8e4m3_bf16
def x2 (w : FVec Ideal S1x256x256 .fp8e4m3) : FVec Ideal S256x256 .bf16 := mulf (x1 w) (x1 w)

theorem x1_apply (w : FVec Ideal S1x256x256 .fp8e4m3) (a b : Fin 256) : x1 w (ix2 a b) = w (ix3 0 b a) := xT_apply w a b
theorem x2_apply (w : FVec Ideal S1x256x256 .fp8e4m3) (a b : Fin 256) :
    x2 w (ix2 a b) = w (ix3 0 b a) * w (ix3 0 b a) := by
  have h : x2 w (ix2 a b) = x1 w (ix2 a b) * x1 w (ix2 a b) := rfl
  rw [h, x1_apply]

/-- The sums over blocks of 128 channels, of eight blocks of 256. -/
def sum8 (y : Fin 8 → FVec Ideal S256x256 .bf16) : FVec Ideal S16x256 .f32 :=
  shapeCast S16x256 (addf (addf (addf (addf (addf (addf (addf
    (mm 0 slices_S16x2048_o0_0_S16x256 (y 0)) (mm 256 slices_S16x2048_o0_256_S16x256 (y 1)))
    (mm 512 slices_S16x2048_o0_512_S16x256 (y 2))) (mm 768 slices_S16x2048_o0_768_S16x256 (y 3)))
    (mm 1024 slices_S16x2048_o0_1024_S16x256 (y 4))) (mm 1280 slices_S16x2048_o0_1280_S16x256 (y 5)))
    (mm 1536 slices_S16x2048_o0_1536_S16x256 (y 6))) (mm 1792 slices_S16x2048_o0_1792_S16x256 (y 7)))
    shapeCasts_S16x256_S16x256

theorem sum_sel (g : Fin 2048 → EReal) (r : Fin 16) :
    ∑ c : Fin 2048, (if c.val / 128 = r.val then 1 else 0) * g c = ∑ i : Fin 128, g ⟨128 * r.val + i.val, by omega⟩ := by
  rw [Fin.sum_univ_tiles 16 128 rfl]
  rw [Finset.sum_eq_single r]
  · refine Finset.sum_congr rfl fun i _ => ?_
    have : (r.val * 128 + i.val) / 128 = r.val := by omega
    simp only [this, if_true, one_mul]
    congr 2; omega
  · intro q _ hq
    refine Finset.sum_eq_zero fun i _ => ?_
    have : ¬ (q.val * 128 + i.val) / 128 = r.val := fun h => hq (Fin.ext (by omega))
    simp only [this, if_false, zero_mul]
  · intro h; exact absurd (Finset.mem_univ r) h

theorem sum8_apply (y : Fin 8 → FVec Ideal S256x256 .bf16) (l : Fin 256) (g : Fin 2048 → EReal)
    (hg : ∀ (b : Fin 8) (k : Fin 256) (c : Fin 2048), c.val = 256 * b.val + k.val → y b (ix2 k l) = g c) (r : Fin 16) :
    sum8 y (ix2 r l) = ∑ i : Fin 128, g ⟨128 * r.val + i.val, by omega⟩ := by
  have h1 : sum8 y (ix2 r l) = mm 0 slices_S16x2048_o0_0_S16x256 (y 0) (ix2 r l)
      + mm 256 slices_S16x2048_o0_256_S16x256 (y 1) (ix2 r l) + mm 512 slices_S16x2048_o0_512_S16x256 (y 2) (ix2 r l)
      + mm 768 slices_S16x2048_o0_768_S16x256 (y 3) (ix2 r l) + mm 1024 slices_S16x2048_o0_1024_S16x256 (y 4) (ix2 r l)
      + mm 1280 slices_S16x2048_o0_1280_S16x256 (y 5) (ix2 r l) + mm 1536 slices_S16x2048_o0_1536_S16x256 (y 6) (ix2 r l)
      + mm 1792 slices_S16x2048_o0_1792_S16x256 (y 7) (ix2 r l) := by
    pointwise [sum8]
  rw [h1, ← sum_sel, Fin.sum_univ_tiles 8 256 rfl, Fin.sum_univ_eight]
  simp only [mm_apply]
  have e : ∀ (b : Fin 8) (o : ℕ), o = 256 * b.val →
      ∑ k : Fin 256, (if (o + k.val) / 128 = r.val then 1 else 0) * y b (ix2 k l)
      = ∑ t : Fin 256, (if (b.val * 256 + t.val) / 128 = r.val then 1 else 0) * g ⟨b.val * 256 + t.val, by omega⟩ := by
    intro b o ho
    refine Finset.sum_congr rfl fun k _ => ?_
    have hd : (o + k.val) / 128 = (b.val * 256 + k.val) / 128 := by omega
    refine congrArg₂ (· * ·) ?_ (hg b k ⟨b.val * 256 + k.val, by omega⟩ (by simp only; omega))
    rw [hd]
  rw [e 0 0 rfl, e 1 256 rfl, e 2 512 rfl, e 3 768 rfl, e 4 1024 rfl, e 5 1280 rfl, e 6 1536 rfl, e 7 1792 rfl]

section groups

variable (w : Fin 8 → FVec Ideal S1x256x256 .fp8e4m3)

theorem pay105_eq : k0_pay105 (k0_pay31 (k0_pay100 (F := Ideal)) (k0_pay21 (k0_pay100 (F := Ideal)) (k0_pay11 (k0_pay100 (F := Ideal)) (w 0) (w 1)) (w 2) (w 3))
      (k0_pay23 (w 4)) (w 5)) (k0_pay37 (k0_pay100 (F := Ideal)) (w 6)) (w 7) = sum8 fun b => x1 (w b) := by
  unfold sum8 mm x1 xT k0_pay105 k0_pay31 k0_pay21 k0_pay11 k0_pay37 k0_pay104 k0_pay103 k0_pay101 k0_pay36 k0_pay35 k0_pay33
    k0_pay30 k0_pay29 k0_pay27 k0_pay26 k0_pay25 k0_pay23 k0_pay20 k0_pay19 k0_pay17 k0_pay16 k0_pay15 k0_pay13 k0_pay10 k0_pay9
    k0_pay7 k0_pay6 k0_pay5 k0_pay3
  rfl

theorem pay106_eq : k0_pay106 (k0_pay32 (k0_pay100 (F := Ideal)) (k0_pay22 (k0_pay100 (F := Ideal)) (k0_pay12 (k0_pay100 (F := Ideal)) (w 0) (w 1)) (w 2) (w 3))
      (k0_pay23 (w 4)) (w 5)) (k0_pay35 (w 6)) (k0_pay36 (k0_pay100 (F := Ideal))) (w 7) = sum8 fun b => x2 (w b) := by
  unfold sum8 mm x2 x1 xT k0_pay106 k0_pay32 k0_pay22 k0_pay12 k0_pay104 k0_pay103 k0_pay101 k0_pay36 k0_pay35 k0_pay33
    k0_pay30 k0_pay29 k0_pay27 k0_pay26 k0_pay25 k0_pay23 k0_pay20 k0_pay19 k0_pay17 k0_pay16 k0_pay15 k0_pay13 k0_pay10 k0_pay9
    k0_pay7 k0_pay6 k0_pay5 k0_pay3
  rfl

/-- The stored block of codes. -/
def xS (w : FVec Ideal S1x256x256 .fp8e4m3) : FVec Ideal S256x256 .fp8e4m3 :=
  shapeCast S256x256 (xT w) shapeCasts_S256x256_S256x256

theorem xS_apply (w : FVec Ideal S1x256x256 .fp8e4m3) (a b : Fin 256) : xS w (ix2 a b) = w (ix3 0 b a) := by
  pointwise [xS, xT]

end groups

end Cert.KernelIdeal.Val

end

end
-- ==== Proof.Loop2.lean ====
/- The kernel's first pass: what its 7 trips leave in the transposed codes and in the two scratches of block sums. -/
module

public import proofs.«01_k».proof.Proof.Pieces
public import proofs.«01_k».proof.Proof.Sel

@[expose] public section

set_option maxRecDepth 16384

noncomputable section

namespace Cert.KernelIdeal.Val

open Idealize.ShloMosaic Idealize.ShloMosaic.TcCoe Cert.KernelIdeal.Gen

section spec

variable (x : S1x256x14336.Idx → EReal)

/-- The codes, channels along the first axis. -/
def XT : S14336x256.Idx → EReal := fun j => x (ix3 0 (j 1) (j 0))

/-- The sum of a block of 128 channels. -/
def S1F : S112x256.Idx → EReal := fun j =>
  ∑ i : Fin 128, x (ix3 0 (j 1) ⟨128 * (j 0).val + i.val, by have h0 : (j 0).val < 112 := (j 0).isLt; omega⟩)

/-- The sum of a block's squares. -/
def S2F : S112x256.Idx → EReal := fun j =>
  ∑ i : Fin 128, x (ix3 0 (j 1) ⟨128 * (j 0).val + i.val, by have h0 : (j 0).val < 112 := (j 0).isLt; omega⟩)
    * x (ix3 0 (j 1) ⟨128 * (j 0).val + i.val, by have h0 : (j 0).val < 112 := (j 0).isLt; omega⟩)

end spec

theorem trips2 : k0_t2_loop.trips = 7 := by decide +kernel

section loop2

variable (arg3 : Memref sig .tc .vmem S1x256x14336 .fp8e4m3) (X3 : BufTy.Contents (Elt Ideal) arg3.view.ty)
  (k : Fin k0_t2_loop.trips)

/-- The block of 256 channels a trip loads in its turn. -/
def ld (b : Fin 8) : FVec Ideal S1x256x256 .fp8e4m3 :=
  arg3.view.readAt (Elt Ideal) (Rect.unit (s := S1x256x14336) (k0_off3 k (BitVec.ofNat 32 (256 * b.val))) S1x256x256.size
    (k0_off3_inb k b)).toLoadRect X3

theorem ld_apply (b : Fin 8) (r l : Fin 256) (ch : Fin 14336) (hch : ch.val = 2048 * k.val + 256 * b.val + l.val) :
    ld arg3 X3 k b (ix3 0 r l) = arg3.view.read (Elt Ideal) X3 (ix3 0 r ch) := by
  refine readAt_unit_at _ _ _ _ _ (k0_off3_eq k b) _ _ fun a => ?_
  match a with
  | 0 => rfl
  | 1 => exact (Nat.zero_add _).symm
  | 2 => exact hch

theorem goodX (b : Fin 8) : GoodAt (e := .fp8e4m3) (XT (arg3.view.read (Elt Ideal) X3))
    (Rect.unit (s := S14336x256) (k0_off4 k (BitVec.ofNat 32 (256 * b.val))) S256x256.size (k0_off4_inb k b))
    (xS (ld arg3 X3 k b)) := by
  refine goodAt_unit _ _ _ _ (k0_off4_eq k b) _ fun x y hy => ?_
  obtain ⟨x0, x1, rfl⟩ : ∃ (a b : Fin 256), x = ix2 a b := ⟨x 0, x 1, eq_ix2 x⟩
  have e0 : (y 0).val = 2048 * k.val + 256 * b.val + x0.val := hy 0
  have e1 : (y 1).val = x1.val := (hy 1).trans (Nat.zero_add _)
  rw [xS_apply, ld_apply arg3 X3 k b x1 x0 (y 0) e0]
  exact congrArg (fun z => arg3.view.read (Elt Ideal) X3 (ix3 0 z (y 0))) (Fin.ext e1.symm)

theorem goodS (q : S112x256.Idx → EReal) (y : Fin 8 → FVec Ideal S256x256 .bf16) (g : Fin 256 → Fin 14336 → EReal)
    (hg : ∀ (b : Fin 8) (a l : Fin 256) (ch : Fin 14336), ch.val = 2048 * k.val + 256 * b.val + a.val → y b (ix2 a l) = g l ch)
    (hq : ∀ j : S112x256.Idx, q j = ∑ i : Fin 128, g (j 1) ⟨128 * (j 0).val + i.val, by have h0 : (j 0).val < 112 := (j 0).isLt; omega⟩) :
    GoodAt (e := .f32) q (Rect.unit (s := S112x256) (k0_off5 k) S16x256.size (k0_off5_inb k)) (sum8 y) := by
  have hk : k.val < 7 := trips2 ▸ k.isLt
  refine goodAt_unit _ _ _ _ (k0_off5_eq k) _ fun x z hz => ?_
  obtain ⟨r, l, rfl⟩ : ∃ (a : Fin 16) (b : Fin 256), x = ix2 a b := ⟨x 0, x 1, eq_ix2 x⟩
  have e0 : (z 0).val = 16 * k.val + r.val := hz 0
  have e1 : z 1 = l := Fin.ext ((hz 1).trans (Nat.zero_add _))
  rw [sum8_apply y l (fun c => g l ⟨2048 * k.val + c.val, by omega⟩) (fun b a c hc => hg b a l _ (by simp only; omega)), hq, e1]
  refine Finset.sum_congr rfl fun i _ => congrArg (g l) (Fin.ext ?_)
  simp only
  omega

end loop2

section run2

variable (𝒱 : Variants) (c : Dev nD) (bd : Option 𝒱.V) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole)
  (X3 : BufTy.Contents (Elt Ideal) arg3.view.ty)

theorem trip2_good (k : Fin k0_t2_loop.trips) :
    Good (e := .fp8e4m3) (XT (arg3.view.read (Elt Ideal) X3)) (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).1
    ∧ Good (e := .f32) (S1F (arg3.view.read (Elt Ideal) X3)) (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).2.1
    ∧ Good (e := .f32) (S2F (arg3.view.read (Elt Ideal) X3)) (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).2.2 := by
  have hx := goodX arg3 X3 k
  have hs1 := goodS k (S1F (arg3.view.read (Elt Ideal) X3)) (fun b => x1 (ld arg3 X3 k b))
    (fun l ch => arg3.view.read (Elt Ideal) X3 (ix3 0 l ch))
    (fun b a l ch h => (x1_apply _ a l).trans (ld_apply arg3 X3 k b l a ch h)) (fun j => rfl)
  have hs2 := goodS k (S2F (arg3.view.read (Elt Ideal) X3)) (fun b => x2 (ld arg3 X3 k b))
    (fun l ch => arg3.view.read (Elt Ideal) X3 (ix3 0 l ch) * arg3.view.read (Elt Ideal) X3 (ix3 0 l ch))
    (fun b a l ch h => (x2_apply _ a l).trans (by rw [ld_apply arg3 X3 k b l a ch h])) (fun j => rfl)
  rw [← pay105_eq] at hs1
  rw [← pay106_eq] at hs2
  unfold tripL_k0_t2 trip_k0_t2
  exact ⟨.cons (hx 7) <| .cons (hx 6) <| .cons (hx 5) <| .cons (hx 4) <| .cons (hx 3) <| .cons (hx 2) <| .cons (hx 1) <|
    .cons (hx 0) .nil, .cons hs1 .nil, .cons hs2 .nil⟩

theorem pb2_good (n : ℕ) (hn : n ≤ k0_t2_loop.trips) :
    Good (e := .fp8e4m3) (XT (arg3.view.read (Elt Ideal) X3)) (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 n).1
    ∧ Good (e := .f32) (S1F (arg3.view.read (Elt Ideal) X3)) (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 n).2.1
    ∧ Good (e := .f32) (S2F (arg3.view.read (Elt Ideal) X3)) (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 n).2.2 := by
  induction n with
  | zero => exact ⟨.nil, .nil, .nil⟩
  | succ n ih =>
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 ⟨n, hn⟩]
    obtain ⟨a, b, d⟩ := trip2_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 ⟨n, hn⟩
    obtain ⟨a', b', d'⟩ := ih (Nat.le_of_succ_le hn)
    exact ⟨a.append a', b.append b', d.append d'⟩

theorem pb2_mono (k : Fin k0_t2_loop.trips) (n : ℕ) (hk : k.val < n) (hn : n ≤ k0_t2_loop.trips) :
    (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).1, p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 n).1)
    ∧ (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).2.1, p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 n).2.1)
    ∧ (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).2.2, p ∈ (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 n).2.2) := by
  induction n with
  | zero => exact absurd hk (Nat.not_lt_zero _)
  | succ n ih =>
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 ⟨n, hn⟩]
    rcases Nat.lt_succ_iff_lt_or_eq.mp hk with h | h
    · obtain ⟨a, b, d⟩ := ih h (Nat.le_of_succ_le hn)
      exact ⟨fun p hp => List.mem_append_right _ (a p hp), fun p hp => List.mem_append_right _ (b p hp),
        fun p hp => List.mem_append_right _ (d p hp)⟩
    · obtain rfl : k = ⟨n, hn⟩ := Fin.ext h
      exact ⟨fun p hp => List.mem_append_left _ hp, fun p hp => List.mem_append_left _ hp,
        fun p hp => List.mem_append_left _ hp⟩

theorem mem4 (k : Fin k0_t2_loop.trips) (y : S14336x256.Idx) (hy : (y 0).val / 2048 = k.val) (r : Fin 8)
    (hr : (y 0).val / 256 % 8 = r.val) :
    y ∈ (Rect.unit (s := S14336x256) (k0_off4 k (BitVec.ofNat 32 (256 * r.val))) S256x256.size (k0_off4_inb k r)).set := by
  have y1 : (y 1).val < 256 := (y 1).isLt
  rw [Rect.mem_set_unit]; intro a; rw [k0_off4_eq]
  match a with
  | 0 => exact ⟨by show 2048 * k.val + 256 * r.val ≤ (y 0).val; omega, by show (y 0).val < 2048 * k.val + 256 * r.val + 256; omega⟩
  | 1 => exact ⟨Nat.zero_le _, by show (y 1).val < 0 + 256; omega⟩

theorem mem5 (k : Fin k0_t2_loop.trips) (y : S112x256.Idx) (hy : (y 0).val / 16 = k.val) :
    y ∈ (Rect.unit (s := S112x256) (k0_off5 k) S16x256.size (k0_off5_inb k)).set := by
  have y1 : (y 1).val < 256 := (y 1).isLt
  rw [Rect.mem_set_unit]; intro a; rw [k0_off5_eq]
  match a with
  | 0 => exact ⟨by show 16 * k.val ≤ (y 0).val; omega, by show (y 0).val < 16 * k.val + 16; omega⟩
  | 1 => exact ⟨Nat.zero_le _, by show (y 1).val < 0 + 256; omega⟩

theorem trip2_cover (k : Fin k0_t2_loop.trips) :
    (∀ y : S14336x256.Idx, (y 0).val / 2048 = k.val → ∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).1, y ∈ p.1.set)
    ∧ (∀ y : S112x256.Idx, (y 0).val / 16 = k.val → ∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).2.1, y ∈ p.1.set)
    ∧ (∀ y : S112x256.Idx, (y 0).val / 16 = k.val → ∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k).2.2, y ∈ p.1.set) := by
  unfold tripL_k0_t2 trip_k0_t2
  refine ⟨fun y hy => ?_, fun y hy => ⟨_, List.Mem.head _, mem5 k y hy⟩, fun y hy => ⟨_, List.Mem.head _, mem5 k y hy⟩⟩
  have m := mem4 k y hy
  have hr : (y 0).val / 256 % 8 = 0 ∨ (y 0).val / 256 % 8 = 1 ∨ (y 0).val / 256 % 8 = 2 ∨ (y 0).val / 256 % 8 = 3
    ∨ (y 0).val / 256 % 8 = 4 ∨ (y 0).val / 256 % 8 = 5 ∨ (y 0).val / 256 % 8 = 6 ∨ (y 0).val / 256 % 8 = 7 := by omega
  rcases hr with hr | hr | hr | hr | hr | hr | hr | hr
  · exact ⟨_, .tail _ (.tail _ (.tail _ (.tail _ (.tail _ (.tail _ (.tail _ (List.Mem.head _))))))), m 0 hr⟩
  · exact ⟨_, .tail _ (.tail _ (.tail _ (.tail _ (.tail _ (.tail _ (List.Mem.head _)))))), m 1 hr⟩
  · exact ⟨_, .tail _ (.tail _ (.tail _ (.tail _ (.tail _ (List.Mem.head _))))), m 2 hr⟩
  · exact ⟨_, .tail _ (.tail _ (.tail _ (.tail _ (List.Mem.head _)))), m 3 hr⟩
  · exact ⟨_, .tail _ (.tail _ (.tail _ (List.Mem.head _))), m 4 hr⟩
  · exact ⟨_, .tail _ (.tail _ (List.Mem.head _)), m 5 hr⟩
  · exact ⟨_, .tail _ (List.Mem.head _), m 6 hr⟩
  · exact ⟨_, List.Mem.head _, m 7 hr⟩

/-- After the pass the codes lie transposed. -/
theorem read_xt (G : BufTy.Contents (Elt Ideal) arg13.view.ty) :
    arg13.view.read (Elt Ideal) (arg13.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k0_t2_loop.trips).1)
      = XT (arg3.view.read (Elt Ideal) X3) := by
  funext y
  have h2 : (y 0).val < 14336 := (y 0).isLt
  refine View.read_writes_apply_of_pieces _ _ _ _ (pb2_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 _ le_rfl).1 y ?_
  obtain ⟨p, hp, hy⟩ := (trip2_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 ⟨(y 0).val / 2048, by rw [trips2]; omega⟩).1 y rfl
  exact ⟨p, (pb2_mono 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 _ _ (Fin.isLt _) le_rfl).1 p hp, hy⟩

/-- After the pass the first scratch of sums holds the sums. -/
theorem read_s1 (G : BufTy.Contents (Elt Ideal) arg16.view.ty) :
    arg16.view.read (Elt Ideal) (arg16.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k0_t2_loop.trips).2.1)
      = S1F (arg3.view.read (Elt Ideal) X3) := by
  funext y
  have h2 : (y 0).val < 112 := (y 0).isLt
  refine View.read_writes_apply_of_pieces _ _ _ _ (pb2_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 _ le_rfl).2.1 y ?_
  obtain ⟨p, hp, hy⟩ := (trip2_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 ⟨(y 0).val / 16, by rw [trips2]; omega⟩).2.1 y rfl
  exact ⟨p, (pb2_mono 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 _ _ (Fin.isLt _) le_rfl).2.1 p hp, hy⟩

/-- After the pass the second scratch of sums holds the sums of squares. -/
theorem read_s2 (G : BufTy.Contents (Elt Ideal) arg17.view.ty) :
    arg17.view.read (Elt Ideal) (arg17.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 k0_t2_loop.trips).2.2)
      = S2F (arg3.view.read (Elt Ideal) X3) := by
  funext y
  have h2 : (y 0).val < 112 := (y 0).isLt
  refine View.read_writes_apply_of_pieces _ _ _ _ (pb2_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 _ le_rfl).2.2 y ?_
  obtain ⟨p, hp, hy⟩ := (trip2_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 ⟨(y 0).val / 16, by rw [trips2]; omega⟩).2.2 y rfl
  exact ⟨p, (pb2_mono 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 _ _ (Fin.isLt _) le_rfl).2.2 p hp, hy⟩

end run2

end Cert.KernelIdeal.Val

end

end
-- ==== Proof.Expo.lean ====
/- The exponent search of the kernel, over the extended reals: the greatest power of two up to a value, found bit by
   bit from the top, and the two powers of two the kernel makes of it. -/
module

public import Idealize.ShloMosaic.Lib.Pointwise
public import Idealize.ShloMosaic.Init

@[expose] public section

set_option maxRecDepth 16384

noncomputable section

namespace Cert.Expo

open Idealize.ShloMosaic

/-- One bit of the search: keep the bit `b` when the float with it set is still at most `v`. -/
def stp (b : BitVec 32) (v : EReal) (e : BitVec 32) : BitVec 32 :=
  Scalar.select (Ideal.cmp .oge v (Ideal.ofBits .f32 (e ||| b))) (e ||| b) e

/-- The exponent field of `v`, in place: the eight bits from the top. -/
def expo (v : EReal) : BitVec 32 :=
  stp 8388608#32 v (stp 16777216#32 v (stp 33554432#32 v (stp 67108864#32 v
    (stp 134217728#32 v (stp 268435456#32 v (stp 536870912#32 v (stp 1073741824#32 v 0#32)))))))

/-- The bits of the inverse scale of an exponent field: 1.0 for the zero field, the mirrored field otherwise. -/
def invBits (e : BitVec 32) : BitVec 32 :=
  Scalar.select (IntOp.cmpi .eq e 0#32) 1065353216#32 (IntOp.subi 2122317824#32 e)

/-- The inverse scale of a block whose greatest magnitude over 448 is `v`. -/
def inv (v : EReal) : EReal := Ideal.ofBits .f32 (invBits (expo v))

/-- The word whose exponent field is `E`, all other bits zero. -/
def wd (E : ℕ) : BitVec 32 := BitVec.ofNat 32 (E * 8388608)

theorem wd_fields : ∀ E : Fin 256, ((wd E).extractLsb' 23 8).toNat = E.val ∧ ((wd E).extractLsb' 0 23).toNat = 0
    ∧ (wd E).extractLsb' 31 1 = 0#1 := by
  decide +kernel

theorem ofBits_wd (E : ℕ) (h1 : 1 ≤ E) (h2 : E ≤ 254) :
    Ideal.ofBits .f32 (wd E) = (((2 : ℝ) ^ ((E : ℤ) - 127) : ℝ) : EReal) := by
  obtain ⟨a, b, c⟩ := wd_fields ⟨E, by omega⟩
  simp only at a b c
  have hc : (BitVec.extractLsb' (8 + 23) 1 (wd E) == 1#1) = false := by
    rw [show (8 + 23 : ℕ) = 31 from rfl, c]; rfl
  unfold Ideal.ofBits Ideal.ieee
  simp only [a, b, hc]
  rw [if_neg (by omega), if_neg (by omega)]
  congr 1
  have e1 : ((E : ℤ) - (2 ^ (8 - 1) - 1) - (23 : ℕ)) = ((E : ℤ) - 127) - 23 := by norm_num
  rw [e1, zpow_sub₀ (by norm_num : (2 : ℝ) ≠ 0)]
  simp only [Bool.false_eq_true, if_false]
  norm_num
  field_simp

theorem ofBits_wd_zero : Ideal.ofBits .f32 (wd 0) = 0 := by
  have : wd 0 = 0x00000000#32 := by decide
  rw [this]; exact Ideal.ofBits_zero_f32

theorem ofBits_wd_top : Ideal.ofBits .f32 (wd 255) = ⊤ := by
  obtain ⟨a, b, c⟩ := wd_fields ⟨255, by omega⟩
  simp only at a b c
  have hc : (BitVec.extractLsb' (8 + 23) 1 (wd 255) == 1#1) = false := by
    rw [show (8 + 23 : ℕ) = 31 from rfl, c]; rfl
  unfold Ideal.ofBits Ideal.ieee
  simp only [a, b, hc]
  rw [if_pos (by norm_num)]
  simp

/-- The float an exponent field denotes; past the last field, the greatest extended real. -/
def fl (E : ℕ) : EReal := if E = 0 then 0 else if E ≤ 254 then (((2 : ℝ) ^ ((E : ℤ) - 127) : ℝ) : EReal) else ⊤

theorem ofBits_fl (E : ℕ) (h : E ≤ 255) : Ideal.ofBits .f32 (wd E) = fl E := by
  unfold fl
  by_cases h0 : E = 0
  · subst h0; rw [if_pos rfl, ofBits_wd_zero]
  · rw [if_neg h0]
    by_cases h1 : E ≤ 254
    · rw [if_pos h1, ofBits_wd E (by omega) h1]
    · rw [if_neg h1]
      obtain rfl : E = 255 := by omega
      exact ofBits_wd_top

theorem wd_or : ∀ b : Fin 8, ∀ E : Fin 256, E.val % 2 ^ (b.val + 1) = 0 →
    wd E ||| wd (2 ^ b.val) = wd (E + 2 ^ b.val) := by
  decide +kernel

/-- The search's invariant: `e` is a field whose low `b` bits are zero, its float is at most `v`, and `v` is below the
    float of the next such field. -/
def Inv (v : EReal) (b : ℕ) (e : BitVec 32) : Prop :=
  ∃ E : ℕ, e = wd E ∧ E + 2 ^ b ≤ 256 ∧ E % 2 ^ b = 0 ∧ fl E ≤ v ∧ v < fl (E + 2 ^ b)

theorem Inv.step {v : EReal} (b : ℕ) (hb : b < 8) {e : BitVec 32} (h : Inv v (b + 1) e) :
    Inv v b (stp (wd (2 ^ b)) v e) := by
  obtain ⟨E, rfl, hE, hm, hl, hu⟩ := h
  have hp : 2 ^ (b + 1) = 2 * 2 ^ b := by rw [pow_succ]; ring
  have hpos : 0 < 2 ^ b := pow_pos (by norm_num) b
  have hd : 2 ^ b ∣ E := (Dvd.intro_left 2 hp.symm).trans (Nat.dvd_of_mod_eq_zero hm)
  have ho := wd_or ⟨b, hb⟩ ⟨E, by omega⟩ hm
  simp only at ho
  unfold stp
  rw [ho, ofBits_fl _ (by omega)]
  unfold Scalar.select Ideal.cmp
  by_cases hc : fl (E + 2 ^ b) ≤ v
  · rw [if_pos (by simp [hc])]
    exact ⟨E + 2 ^ b, rfl, by omega, Nat.mod_eq_zero_of_dvd (hd.add dvd_rfl), hc, by
      rw [show E + 2 ^ b + 2 ^ b = E + 2 ^ (b + 1) by omega]; exact hu⟩
  · rw [if_neg (by simp [hc])]
    exact ⟨E, rfl, by omega, Nat.mod_eq_zero_of_dvd hd, hl, not_le.mp hc⟩

/-- What the search finds, for a value that is no infinity and not negative. -/
theorem expo_spec (v : EReal) (h0 : 0 ≤ v) (ht : v < ⊤) : ∃ E : ℕ, expo v = wd E ∧ E ≤ 254 ∧ fl E ≤ v ∧ v < fl (E + 1) := by
  have s8 : Inv v 8 0#32 := ⟨0, by decide, by norm_num, by norm_num, by simpa [fl] using h0, by simpa [fl] using ht⟩
  have s0 : Inv v 0 (expo v) :=
    (((((((s8.step 7 (by norm_num)).step 6 (by norm_num)).step 5 (by norm_num)).step 4 (by norm_num)).step 3
      (by norm_num)).step 2 (by norm_num)).step 1 (by norm_num)).step 0 (by norm_num)
  obtain ⟨E, he, hE, -, hl, hu⟩ := s0
  refine ⟨E, he, ?_, hl, by simpa using hu⟩
  by_contra hc
  have hE' : E = 255 := by simp at hE; omega
  subst hE'
  rw [show fl 255 = ⊤ by simp [fl]] at hl
  exact absurd (lt_of_le_of_lt hl ht) (lt_irrefl _)

theorem wd_sub : ∀ E : Fin 253, 1 ≤ E.val → invBits (wd E) = wd (253 - E) := by
  decide +kernel

theorem wd_sub_zero : invBits (wd 0) = wd 127 := by decide

/-- The exponent of the reference: the least `e` with `v < 2 ^ e`, zero below the smallest normal float. -/
def rexp (v : EReal) : EReal :=
  if v < Ideal.ofBits .f32 0x00800000#32 then 0
  else Ideal.liftRound Int.floor (Ideal.div (Ideal.log v) (Ideal.log (Ideal.ofBits .f32 0x40000000#32))) + 1

/-- The powers of two agree: for a value below 2 ^ 120 the inverse scale is `2 ^ (-e)` and its reciprocal `2 ^ e`. -/
theorem inv_spec (r : ℝ) (h0 : 0 ≤ r) (h1 : r < 2 ^ 120) :
    Ideal.exp2 (-(rexp (r : EReal))) = inv (r : EReal) ∧ Ideal.exp2 (rexp (r : EReal)) = Ideal.div 1 (inv (r : EReal)) := by
  obtain ⟨E, he, hE, hl, hu⟩ := expo_spec (r : EReal) (by exact_mod_cast h0) (EReal.coe_lt_top r)
  have c1 : Ideal.ofBits .f32 0x00800000#32 = (((2 : ℝ) ^ (-126 : ℤ) : ℝ) : EReal) := by
    rw [show (0x00800000#32 : BitVec 32) = wd 1 by decide, ofBits_wd 1 (by norm_num) (by norm_num)]; norm_num
  have c2 : Ideal.ofBits .f32 0x40000000#32 = ((2 : ℝ) : EReal) := by
    rw [show (0x40000000#32 : BitVec 32) = wd 128 by decide, ofBits_wd 128 (by norm_num) (by norm_num)]; norm_num
  unfold inv rexp
  rw [he, c1, c2]
  by_cases hz : E = 0
  · subst hz
    have hlt : r < (2 : ℝ) ^ (-126 : ℤ) := by
      simp only [fl] at hu; norm_num at hu ⊢; exact hu
    rw [if_pos (by exact_mod_cast hlt), wd_sub_zero, ofBits_wd 127 (by norm_num) (by norm_num)]
    have : Ideal.exp2 (0 : EReal) = 1 := by
      rw [← EReal.coe_zero, Ideal.exp2_coe]; simp
    rw [neg_zero, this]
    have h11 : (((2 : ℝ) ^ (((127 : ℕ) : ℤ) - 127) : ℝ) : EReal) = 1 := by norm_num
    rw [h11]
    refine ⟨rfl, ?_⟩
    rw [← EReal.coe_one, Ideal.div_coe (by norm_num)]; norm_num
  · have hE1 : 1 ≤ E := Nat.one_le_iff_ne_zero.mpr hz
    have hl' : (2 : ℝ) ^ ((E : ℤ) - 127) ≤ r := by
      unfold fl at hl; rw [if_neg hz, if_pos hE] at hl; exact_mod_cast hl
    have hE2 : E ≤ 246 := by
      by_contra hc
      have : (2 : ℝ) ^ (120 : ℤ) ≤ (2 : ℝ) ^ ((E : ℤ) - 127) := zpow_le_zpow_right₀ (by norm_num) (by omega)
      have h3 : ((2 : ℝ) ^ (120 : ℤ)) = 2 ^ 120 := by norm_cast
      linarith
    have hu' : r < (2 : ℝ) ^ ((E : ℤ) - 126) := by
      unfold fl at hu; rw [if_neg (by omega), if_pos (by omega)] at hu
      have : r < (2 : ℝ) ^ (((E + 1 : ℕ) : ℤ) - 127) := by exact_mod_cast hu
      rwa [show (((E + 1 : ℕ) : ℤ) - 127) = (E : ℤ) - 126 by push_cast; ring] at this
    have hrpos : 0 < r := lt_of_lt_of_le (zpow_pos (by norm_num) _) hl'
    have hnlt : ¬ (r : EReal) < (((2 : ℝ) ^ (-126 : ℤ) : ℝ) : EReal) := by
      rw [not_lt]
      have : (2 : ℝ) ^ (-126 : ℤ) ≤ (2 : ℝ) ^ ((E : ℤ) - 127) := zpow_le_zpow_right₀ (by norm_num) (by omega)
      exact_mod_cast this.trans hl'
    rw [if_neg hnlt, wd_sub ⟨E, by omega⟩ hE1, ofBits_wd _ (by simp only; omega) (by simp only; omega)]
    rw [Ideal.log_coe, Ideal.log_coe, if_neg (not_le.mpr hrpos), if_neg (by norm_num)]
    have hlog2 : 0 < Real.log 2 := Real.log_pos (by norm_num)
    rw [Ideal.div_coe hlog2.ne', ← EReal.coe_mul]
    have hfl : ⌊Real.log r * (1 / Real.log 2)⌋ = (E : ℤ) - 127 := by
      rw [Int.floor_eq_iff, mul_one_div]
      constructor
      · rw [le_div_iff₀ hlog2]
        have := Real.log_le_log (zpow_pos (by norm_num) _) hl'
        rwa [Real.log_zpow] at this
      · rw [div_lt_iff₀ hlog2]
        have := Real.log_lt_log hrpos hu'
        rw [Real.log_zpow] at this
        push_cast at this ⊢
        linarith
    have hround : Ideal.liftRound Int.floor ((Real.log r * (1 / Real.log 2) : ℝ) : EReal)
        = (((E : ℤ) - 127 : ℝ) : EReal) := by
      show (((⌊Real.log r * (1 / Real.log 2)⌋ : ℤ) : ℝ) : EReal) = _
      rw [hfl]; push_cast; rfl
    rw [hround, ← EReal.coe_one, ← EReal.coe_add, ← EReal.coe_neg, Ideal.exp2_coe, Ideal.exp2_coe]
    have z1 : Real.rpow 2 (-((E : ℤ) - 127 + 1 : ℝ)) = (2 : ℝ) ^ (126 - (E : ℤ)) := by
      have : (-((E : ℤ) - 127 + 1 : ℝ)) = ((126 - (E : ℤ) : ℤ) : ℝ) := by push_cast; ring
      show (2 : ℝ) ^ (-((E : ℤ) - 127 + 1 : ℝ)) = _
      rw [this, Real.rpow_intCast]
    have z2 : Real.rpow 2 ((E : ℤ) - 127 + 1 : ℝ) = (2 : ℝ) ^ ((E : ℤ) - 126) := by
      have : ((E : ℤ) - 127 + 1 : ℝ) = (((E : ℤ) - 126 : ℤ) : ℝ) := by push_cast; ring
      show (2 : ℝ) ^ ((E : ℤ) - 127 + 1 : ℝ) = _
      rw [this, Real.rpow_intCast]
    have z3 : (((253 - E : ℕ) : ℤ) - 127) = 126 - (E : ℤ) := by omega
    rw [z1, z2, z3]
    refine ⟨rfl, ?_⟩
    rw [Ideal.div_coe (zpow_ne_zero _ (by norm_num)), EReal.coe_one, one_mul, one_div, ← zpow_neg]
    congr 2; ring

end Cert.Expo

end

end
-- ==== Proof.Tile.lean ====
/- One tile of the kernel's last pass - a block of 128 channels by 128 rows - as functions of what the tile loads, and
   each of the eight printed copies of it as those functions. -/
module

public import proofs.«01_k».proof.Proof.Gen.KernelIdeal.Loops
public import proofs.«01_k».proof.Proof.Expo
public import Idealize.ShloMosaic.Lib.Pointwise

@[expose] public section

set_option maxRecDepth 16384

noncomputable section

namespace Cert.KernelIdeal.Val

open Idealize.ShloMosaic Idealize.ShloMosaic.TcCoe Cert.KernelIdeal.Gen

/-- One bit of the exponent search, for a row of values at once. -/
def stpV (b : BitVec 32) (v : FVec Ideal S1x128 .f32) (e : IVec S1x128 32) : IVec S1x128 32 :=
  select (cmpf .oge v (bitcastToFloat .f32 (ori e (broadcast S1x128 b)))) (ori e (broadcast S1x128 b)) e

theorem stpV_apply (b : BitVec 32) (v : FVec Ideal S1x128 .f32) (e : IVec S1x128 32) (j : S1x128.Idx) :
    stpV b v e j = Expo.stp b (v j) (e j) := rfl

/-- The inverse scales of a row of values. -/
def invV (v : FVec Ideal S1x128 .f32) : FVec Ideal S1x128 .f32 :=
  let e := stpV 8388608#32 v (stpV 16777216#32 v (stpV 33554432#32 v (stpV 67108864#32 v
    (stpV 134217728#32 v (stpV 268435456#32 v (stpV 536870912#32 v (stpV 1073741824#32 v (broadcast S1x128 0#32))))))))
  bitcastToFloat .f32 (select (cmpi .eq e (broadcast S1x128 0#32)) (broadcast S1x128 1065353216#32)
    (subi (broadcast S1x128 2122317824#32) e))

theorem invV_apply (v : FVec Ideal S1x128 .f32) (j : S1x128.Idx) : invV v j = Expo.inv (v j) := by
  have h : ∀ e : IVec S1x128 32, (bitcastToFloat .f32 (select (cmpi .eq e (broadcast S1x128 0#32))
      (broadcast S1x128 1065353216#32) (subi (broadcast S1x128 2122317824#32) e)) : FVec Ideal S1x128 .f32) j
      = Ideal.ofBits .f32 (Expo.invBits (e j)) := fun e => rfl
  unfold invV
  rw [h]
  simp only [stpV_apply]
  rfl

/-- The normalized tile, channels along the first axis. -/
def tY (sv : FVec Ideal S1x128 .f32) (g b : FVec Ideal S128x128 .f32) (x : FVec Ideal S128x128 .fp8e4m3)
    (a : FVec Ideal S1x1x128 .f32) : FVec Ideal S128x128 .f32 :=
  addf (mulf (addf (mulf (extf .f32 x bitsLt_fp8e4m3_f32)
    (broadcastTo S128x128 (shapeCast S1x128 a shapeCasts_S1x1x128_S1x128) broadcasts_S1x128_S128x128))
    (broadcastTo S128x128 sv broadcasts_S1x128_S128x128)) g) b

/-- The greatest magnitude per row, over 448. -/
def tA (y : FVec Ideal S128x128 .f32) : FVec Ideal S1x128 .f32 :=
  mulf (shapeCast S1x128 (multiReduction .maximumf [0] S128 (absf y) 0xFF800000#32 reduces_S128x128_S128 (.inl rfl) rfl)
    shapeCasts_S128_S1x128) (broadcast S1x128 (Scalar.ofBits (F := Ideal) .f32 0x3B124925#32))

/-- The codes, rows along the first axis. -/
def tC (y : FVec Ideal S128x128 .f32) : FVec Ideal S1x128x128 .fp8e4m3 :=
  shapeCast S1x128x128 (transpose S128x128 [1, 0] (truncf .fp8e4m3
    (minimumf (broadcast S128x128 (Scalar.ofBits (F := Ideal) .f32 0x43E00000#32))
      (maximumf (broadcast S128x128 (Scalar.ofBits (F := Ideal) .f32 0xC3E00000#32))
        (mulf y (broadcastTo S128x128 (invV (tA y)) broadcasts_S1x128_S128x128))))
    bitsLt_fp8e4m3_f32) transposes_S128x128_p1_0_S128x128) shapeCasts_S128x128_S1x128x128

/-- The inverse scales. -/
def tS (y : FVec Ideal S128x128 .f32) : FVec Ideal S1x1x128 .f32 :=
  shapeCast S1x1x128 (invV (tA y)) shapeCasts_S1x128_S1x1x128

theorem tY_apply (sv : FVec Ideal S1x128 .f32) (g b : FVec Ideal S128x128 .f32) (x : FVec Ideal S128x128 .fp8e4m3)
    (a : FVec Ideal S1x1x128 .f32) (i l : Fin 128) :
    tY sv g b x a (ix2 i l) = (x (ix2 i l) * a (ix3 0 0 l) + sv (ix2 0 l)) * g (ix2 i l) + b (ix2 i l) := by
  pointwise [tY]

/-- The greatest magnitude over 448 of 128 values. -/
def amaxOf (y : Fin 128 → EReal) : EReal :=
  Finset.univ.fold max (Ideal.ofBits .f32 0xFF800000#32) (fun k => max (y k) (-(y k))) * Ideal.ofBits .f32 0x3B124925#32

/-- A value times the inverse scale, clipped to the code's range. -/
def clipOf (y i : EReal) : EReal :=
  min (Ideal.ofBits .f32 0x43E00000#32) (max (Ideal.ofBits .f32 0xC3E00000#32) (y * i))

theorem tA_apply (y : FVec Ideal S128x128 .f32) (l : Fin 128) :
    tA y (ix2 0 l) = amaxOf fun k => y (ix2 k l) := by
  pointwise [tA, amaxOf]
  rfl

theorem tS_apply (y : FVec Ideal S128x128 .f32) (l : Fin 128) :
    tS y (ix3 0 0 l) = Expo.inv (amaxOf fun k => y (ix2 k l)) := by
  rw [← tA_apply, ← invV_apply]
  pointwise [tS]

theorem tC_apply (y : FVec Ideal S128x128 .f32) (l i : Fin 128) :
    tC y (ix3 0 l i) = clipOf (y (ix2 i l)) (Expo.inv (amaxOf fun k => y (ix2 k l))) := by
  rw [← tA_apply, ← invV_apply]
  pointwise [tC, clipOf]

/-- What a trip of the last pass loads and does for the `r`-th block of its four, in the half `h` of the rows. -/
def sl0 (v : FVec Ideal S1x256 .f32) : FVec Ideal S1x128 .f32 := extractStridedSlice S1x128 ![0, 0] v slices_S1x256_o0_0_S1x128
def sl1 (v : FVec Ideal S1x256 .f32) : FVec Ideal S1x128 .f32 := extractStridedSlice S1x128 ![0, 128] v slices_S1x256_o0_128_S1x128

theorem sl0_apply (v : FVec Ideal S1x256 .f32) (l : Fin 128) : sl0 v (ix2 0 l) = v (ix2 0 ⟨l.val, by omega⟩) := by
  pointwise [sl0]
theorem sl1_apply (v : FVec Ideal S1x256 .f32) (l : Fin 128) : sl1 v (ix2 0 l) = v (ix2 0 ⟨128 + l.val, by omega⟩) := by
  pointwise [sl1]

section groups

variable (v : FVec Ideal S1x256 .f32) (g b : FVec Ideal S128x128 .f32) (x : FVec Ideal S128x128 .fp8e4m3) (a : FVec Ideal S1x1x128 .f32)

theorem gc00 : k0_pay46 (k0_pay45 (k0_pay38 v g b x a) (k0_pay39 v g b x a) (k0_pay40 v g b x a) (k0_pay41 v g b x a) (k0_pay42 v g b x a)) = tC (tY (sl0 v) g b x a) := by
  unfold tC tA tY invV stpV sl0 k0_pay46 k0_pay45 k0_pay42 k0_pay43 k0_pay41 k0_pay40 k0_pay39 k0_pay38
  rfl
theorem gs00 : k0_pay44 (k0_pay39 v g b x a) (k0_pay40 v g b x a) (k0_pay41 v g b x a) (k0_pay42 v g b x a) = tS (tY (sl0 v) g b x a) := by
  unfold tS tA tY invV stpV sl0 k0_pay44 k0_pay42 k0_pay43 k0_pay41 k0_pay40 k0_pay39 k0_pay38
  rfl
theorem gc10 : k0_pay52 (k0_pay47 v g b x a) (k0_pay48 v g b x a) (k0_pay49 v g b x a) = tC (tY (sl1 v) g b x a) := by
  unfold tC tA tY invV stpV sl1 k0_pay52 k0_pay49 k0_pay50 k0_pay48 k0_pay47
  rfl
theorem gs10 : k0_pay51 (k0_pay48 v g b x a) (k0_pay49 v g b x a) = tS (tY (sl1 v) g b x a) := by
  unfold tS tA tY invV stpV sl1 k0_pay51 k0_pay49 k0_pay50 k0_pay48 k0_pay47
  rfl
theorem gc01 : k0_pay58 (k0_pay53 v g b x a) (k0_pay54 v g b x a) (k0_pay55 v g b x a) = tC (tY (sl0 v) g b x a) := by
  unfold tC tA tY invV stpV sl0 k0_pay58 k0_pay55 k0_pay56 k0_pay54 k0_pay53
  rfl
theorem gs01 : k0_pay57 (k0_pay54 v g b x a) (k0_pay55 v g b x a) = tS (tY (sl0 v) g b x a) := by
  unfold tS tA tY invV stpV sl0 k0_pay57 k0_pay55 k0_pay56 k0_pay54 k0_pay53
  rfl
theorem gc11 : k0_pay65 (k0_pay60 v g b (k0_pay59 x) a) (k0_pay61 v g b (k0_pay59 x) a) (k0_pay62 v g b (k0_pay59 x) a) 8388608#32 = tC (tY (sl1 v) g b x a) := by
  unfold tC tA tY invV stpV sl1 k0_pay65 k0_pay62 k0_pay59 k0_pay63 k0_pay61 k0_pay60
  rfl
theorem gs11 : k0_pay64 (k0_pay61 v g b (k0_pay59 x) a) (k0_pay62 v g b (k0_pay59 x) a) 8388608#32 = tS (tY (sl1 v) g b x a) := by
  unfold tS tA tY invV stpV sl1 k0_pay64 k0_pay62 k0_pay59 k0_pay63 k0_pay61 k0_pay60
  rfl
theorem gc02 : k0_pay72 (k0_pay67 v g b (k0_pay66 x) a) (k0_pay68 v g b (k0_pay66 x) a) (k0_pay69 v g b (k0_pay66 x) a) 8388608#32 = tC (tY (sl0 v) g b x a) := by
  unfold tC tA tY invV stpV sl0 k0_pay72 k0_pay69 k0_pay66 k0_pay70 k0_pay68 k0_pay67
  rfl
theorem gs02 : k0_pay71 (k0_pay68 v g b (k0_pay66 x) a) (k0_pay69 v g b (k0_pay66 x) a) 8388608#32 = tS (tY (sl0 v) g b x a) := by
  unfold tS tA tY invV stpV sl0 k0_pay71 k0_pay69 k0_pay66 k0_pay70 k0_pay68 k0_pay67
  rfl
theorem gc12 : k0_pay81 (k0_pay73 v g b x a) (k0_pay76 (k0_pay74 v g b x a) (Scalar.ofBits (F := Ideal) .f32 0x3B124925#32)) (k0_pay77 (k0_pay74 v g b x a) (Scalar.ofBits (F := Ideal) .f32 0x3B124925#32)) k0_pay78 = tC (tY (sl1 v) g b x a) := by
  unfold tC tA tY invV stpV sl1 k0_pay81 k0_pay76 k0_pay77 k0_pay74 k0_pay78 k0_pay79 k0_pay75 k0_pay73
  rfl
theorem gs12 : k0_pay80 (k0_pay76 (k0_pay74 v g b x a) (Scalar.ofBits (F := Ideal) .f32 0x3B124925#32)) (k0_pay77 (k0_pay74 v g b x a) (Scalar.ofBits (F := Ideal) .f32 0x3B124925#32)) k0_pay78 = tS (tY (sl1 v) g b x a) := by
  unfold tS tA tY invV stpV sl1 k0_pay80 k0_pay76 k0_pay77 k0_pay74 k0_pay78 k0_pay79 k0_pay75 k0_pay73
  rfl
theorem gc03 : k0_pay90 (k0_pay82 v g b x a) (k0_pay85 (k0_pay83 v g b x a) (Scalar.ofBits (F := Ideal) .f32 0x3B124925#32)) (k0_pay86 (k0_pay83 v g b x a) (Scalar.ofBits (F := Ideal) .f32 0x3B124925#32)) k0_pay87 = tC (tY (sl0 v) g b x a) := by
  unfold tC tA tY invV stpV sl0 k0_pay90 k0_pay85 k0_pay86 k0_pay83 k0_pay87 k0_pay88 k0_pay84 k0_pay82
  rfl
theorem gs03 : k0_pay89 (k0_pay85 (k0_pay83 v g b x a) (Scalar.ofBits (F := Ideal) .f32 0x3B124925#32)) (k0_pay86 (k0_pay83 v g b x a) (Scalar.ofBits (F := Ideal) .f32 0x3B124925#32)) k0_pay87 = tS (tY (sl0 v) g b x a) := by
  unfold tS tA tY invV stpV sl0 k0_pay89 k0_pay85 k0_pay86 k0_pay83 k0_pay87 k0_pay88 k0_pay84 k0_pay82
  rfl
theorem gc13 : k0_pay121 (k0_pay97 (k0_pay91 v g b x a) (k0_pay92 v g b x a) (k0_pay93 v g b x a) (k0_pay94 v g b x a)) (Scalar.ofBits (F := Ideal) .f32 0xC3E00000#32) (Scalar.ofBits (F := Ideal) .f32 0x43E00000#32) = tC (tY (sl1 v) g b x a) := by
  unfold tC tA tY invV stpV sl1 k0_pay121 k0_pay97 k0_pay94 k0_pay95 k0_pay93 k0_pay92 k0_pay91
  rfl
theorem gs13 : k0_pay96 (k0_pay92 v g b x a) (k0_pay93 v g b x a) (k0_pay94 v g b x a) = tS (tY (sl1 v) g b x a) := by
  unfold tS tA tY invV stpV sl1 k0_pay96 k0_pay94 k0_pay95 k0_pay93 k0_pay92 k0_pay91
  rfl

end groups

section words

variable (arg13 : Memref sig .tc .vmem S14336x256 .fp8e4m3) (arg14 arg15 : Memref sig .tc .vmem S14336x128 .f32)
  (arg18 : Memref sig .tc .vmem S2x112x128 .f32) (v62 : Ideal .f32) (v69 v78 : FVec Ideal S1x256 .f32)
  (X13 : BufTy.Contents (Elt Ideal) arg13.view.ty) (X14 : BufTy.Contents (Elt Ideal) arg14.view.ty)
  (X15 : BufTy.Contents (Elt Ideal) arg15.view.ty) (X18 : BufTy.Contents (Elt Ideal) arg18.view.ty) (k : Fin k0_t3_loop.trips)

def tile0 (r : Fin 4) : FVec Ideal S128x128 .f32 :=
  tY (sl0 (k0_pay120 v62 v69 v78))
    (arg14.view.readAt (Elt Ideal) (Rect.unit (s := S14336x128) (k0_off6 k (BitVec.ofNat 32 r.val)) S128x128.size (k0_off6_inb k r)).toLoadRect X14)
    (arg15.view.readAt (Elt Ideal) (Rect.unit (s := S14336x128) (k0_off6 k (BitVec.ofNat 32 r.val)) S128x128.size (k0_off6_inb k r)).toLoadRect X15)
    (arg13.view.readAt (Elt Ideal) (Rect.unit (s := S14336x256) (k0_off7 k (BitVec.ofNat 32 r.val)) S128x128.size (k0_off7_inb k r)).toLoadRect X13)
    (arg18.view.readAt (Elt Ideal) (Rect.unit (s := S2x112x128) (k0_off8 k (BitVec.ofNat 32 r.val)) S1x1x128.size (k0_off8_inb k r)).toLoadRect X18)

def tile1 (r : Fin 4) : FVec Ideal S128x128 .f32 :=
  tY (sl1 (k0_pay120 v62 v69 v78))
    (arg14.view.readAt (Elt Ideal) (Rect.unit (s := S14336x128) (k0_off6 k (BitVec.ofNat 32 r.val)) S128x128.size (k0_off6_inb k r)).toLoadRect X14)
    (arg15.view.readAt (Elt Ideal) (Rect.unit (s := S14336x128) (k0_off6 k (BitVec.ofNat 32 r.val)) S128x128.size (k0_off6_inb k r)).toLoadRect X15)
    (arg13.view.readAt (Elt Ideal) (Rect.unit (s := S14336x256) (k0_off10 k (BitVec.ofNat 32 r.val)) S128x128.size (k0_off10_inb k r)).toLoadRect X13)
    (arg18.view.readAt (Elt Ideal) (Rect.unit (s := S2x112x128) (k0_off11 k (BitVec.ofNat 32 r.val)) S1x1x128.size (k0_off11_inb k r)).toLoadRect X18)

theorem c00 : k0_pay46 (trip_k0_t3.sl.r_7 arg13 arg14 arg15 arg18 v62 v69 v78 X13 X14 X15 X18 k) = tC (tile0 arg13 arg14 arg15 arg18 v62 v69 v78 X13 X14 X15 X18 k 0) := gc00 _ _ _ _ _
theorem s00 : k0_pay44 (trip_k0_t3.sl.r_3 arg13 arg14 arg15 arg18 v62 v69 v78 X13 X14 X15 X18 k) (trip_k0_t3.sl.r_4 arg13 arg14 arg15 arg18 v62 v69 v78 X13 X14 X15 X18 k) (trip_k0_t3.sl.r_5 arg13 arg14 arg15 arg18 v62 v69 v78 X13 X14 X15 X18 k) (trip_k0_t3.sl.r_6 arg13 arg14 arg15 arg18 v62 v69 v78 X13 X14 X15 X18 k) = tS (tile0 arg13 arg14 arg15 arg18 v62 v69 v78 X13 X14 X15 X18 k 0) := gs00 _ _ _ _ _
theorem c10 : k0_pay52 (trip_k0_t3.sl.r_8 arg13 arg14 arg15 arg18 v62 v69 v78 X13 X14 X15 X18 k) (trip_k0_t3.sl.r_9 arg13 arg14 arg15 arg18 v62 v69 v78 X13 X14 X15 X18 k) (trip_k0_t3.sl.r_10 arg13 arg14 arg15 arg18 v62 v69 v78 X13 X14 X15 X18 k) = tC (tile1 arg13 arg14 arg15 arg18 v62 v69 v78 X13 X14 X15 X18 k 0) := gc10 _ _ _ _ _
theorem s10 : k0_pay51 (trip_k0_t3.sl.r_9 arg13 arg14 arg15 arg18 v62 v69 v78 X13 X14 X15 X18 k) (trip_k0_t3.sl.r_10 arg13 arg14 arg15 arg18 v62 v69 v78 X13 X14 X15 X18 k) = tS (tile1 arg13 arg14 arg15 arg18 v62 v69 v78 X13 X14 X15 X18 k 0) := gs10 _ _ _ _ _
theorem c01 : k0_pay58 (trip_k0_t3.sl.r_13 arg13 arg14 arg15 arg18 v62 v69 v78 X13 X14 X15 X18 k) (trip_k0_t3.sl.r_14 arg13 arg14 arg15 arg18 v62 v69 v78 X13 X14 X15 X18 k) (trip_k0_t3.sl.r_15 arg13 arg14 arg15 arg18 v62 v69 v78 X13 X14 X15 X18 k) = tC (tile0 arg13 arg14 arg15 arg18 v62 v69 v78 X13 X14 X15 X18 k 1) := gc01 _ _ _ _ _
theorem s01 : k0_pay57 (trip_k0_t3.sl.r_14 arg13 arg14 arg15 arg18 v62 v69 v78 X13 X14 X15 X18 k) (trip_k0_t3.sl.r_15 arg13 arg14 arg15 arg18 v62 v69 v78 X13 X14 X15 X18 k) = tS (tile0 arg13 arg14 arg15 arg18 v62 v69 v78 X13 X14 X15 X18 k 1) := gs01 _ _ _ _ _
theorem c11 : k0_pay65 (trip_k0_t3.sl.r_18 arg13 arg14 arg15 arg18 v62 v69 v78 X13 X14 X15 X18 k) (trip_k0_t3.sl.r_19 arg13 arg14 arg15 arg18 v62 v69 v78 X13 X14 X15 X18 k) (trip_k0_t3.sl.r_20 arg13 arg14 arg15 arg18 v62 v69 v78 X13 X14 X15 X18 k) 8388608#32 = tC (tile1 arg13 arg14 arg15 arg18 v62 v69 v78 X13 X14 X15 X18 k 1) := gc11 _ _ _ _ _
theorem s11 : k0_pay64 (trip_k0_t3.sl.r_19 arg13 arg14 arg15 arg18 v62 v69 v78 X13 X14 X15 X18 k) (trip_k0_t3.sl.r_20 arg13 arg14 arg15 arg18 v62 v69 v78 X13 X14 X15 X18 k) 8388608#32 = tS (tile1 arg13 arg14 arg15 arg18 v62 v69 v78 X13 X14 X15 X18 k 1) := gs11 _ _ _ _ _
theorem c02 : k0_pay72 (trip_k0_t3.sl.r_25 arg13 arg14 arg15 arg18 v62 v69 v78 X13 X14 X15 X18 k) (trip_k0_t3.sl.r_26 arg13 arg14 arg15 arg18 v62 v69 v78 X13 X14 X15 X18 k) (trip_k0_t3.sl.r_27 arg13 arg14 arg15 arg18 v62 v69 v78 X13 X14 X15 X18 k) 8388608#32 = tC (tile0 arg13 arg14 arg15 arg18 v62 v69 v78 X13 X14 X15 X18 k 2) := gc02 _ _ _ _ _
theorem s02 : k0_pay71 (trip_k0_t3.sl.r_26 arg13 arg14 arg15 arg18 v62 v69 v78 X13 X14 X15 X18 k) (trip_k0_t3.sl.r_27 arg13 arg14 arg15 arg18 v62 v69 v78 X13 X14 X15 X18 k) 8388608#32 = tS (tile0 arg13 arg14 arg15 arg18 v62 v69 v78 X13 X14 X15 X18 k 2) := gs02 _ _ _ _ _
theorem c12 : k0_pay81 (trip_k0_t3.sl.r_28 arg13 arg14 arg15 arg18 v62 v69 v78 X13 X14 X15 X18 k) (trip_k0_t3.sl.r_30 arg13 arg14 arg15 arg18 v62 v69 v78 X13 X14 X15 X18 k) (trip_k0_t3.sl.r_31 arg13 arg14 arg15 arg18 v62 v69 v78 X13 X14 X15 X18 k) k0_pay78 = tC (tile1 arg13 arg14 arg15 arg18 v62 v69 v78 X13 X14 X15 X18 k 2) := gc12 _ _ _ _ _
theorem s12 : k0_pay80 (trip_k0_t3.sl.r_30 arg13 arg14 arg15 arg18 v62 v69 v78 X13 X14 X15 X18 k) (trip_k0_t3.sl.r_31 arg13 arg14 arg15 arg18 v62 v69 v78 X13 X14 X15 X18 k) k0_pay78 = tS (tile1 arg13 arg14 arg15 arg18 v62 v69 v78 X13 X14 X15 X18 k 2) := gs12 _ _ _ _ _
theorem c03 : k0_pay90 (trip_k0_t3.sl.r_34 arg13 arg14 arg15 arg18 v62 v69 v78 X13 X14 X15 X18 k) (trip_k0_t3.sl.r_36 arg13 arg14 arg15 arg18 v62 v69 v78 X13 X14 X15 X18 k) (trip_k0_t3.sl.r_37 arg13 arg14 arg15 arg18 v62 v69 v78 X13 X14 X15 X18 k) k0_pay87 = tC (tile0 arg13 arg14 arg15 arg18 v62 v69 v78 X13 X14 X15 X18 k 3) := gc03 _ _ _ _ _
theorem s03 : k0_pay89 (trip_k0_t3.sl.r_36 arg13 arg14 arg15 arg18 v62 v69 v78 X13 X14 X15 X18 k) (trip_k0_t3.sl.r_37 arg13 arg14 arg15 arg18 v62 v69 v78 X13 X14 X15 X18 k) k0_pay87 = tS (tile0 arg13 arg14 arg15 arg18 v62 v69 v78 X13 X14 X15 X18 k 3) := gs03 _ _ _ _ _
theorem c13 : k0_pay121 (trip_k0_t3.sl.r_42 arg13 arg14 arg15 arg18 v62 v69 v78 X13 X14 X15 X18 k) trip_k0_t3.sl.cst_249 trip_k0_t3.sl.cst_250 = tC (tile1 arg13 arg14 arg15 arg18 v62 v69 v78 X13 X14 X15 X18 k 3) := gc13 _ _ _ _ _
theorem s13 : k0_pay96 (trip_k0_t3.sl.r_39 arg13 arg14 arg15 arg18 v62 v69 v78 X13 X14 X15 X18 k) (trip_k0_t3.sl.r_40 arg13 arg14 arg15 arg18 v62 v69 v78 X13 X14 X15 X18 k) (trip_k0_t3.sl.r_41 arg13 arg14 arg15 arg18 v62 v69 v78 X13 X14 X15 X18 k) = tS (tile1 arg13 arg14 arg15 arg18 v62 v69 v78 X13 X14 X15 X18 k 3) := gs13 _ _ _ _ _

end words

end Cert.KernelIdeal.Val

end

end
-- ==== Proof.Loop3.lean ====
/- The kernel's last pass: what its 28 trips leave in the codes' block and in the inverse scales' scratch. -/
module

public import proofs.«01_k».proof.Proof.Tile
public import proofs.«01_k».proof.Proof.Pieces

@[expose] public section

set_option maxRecDepth 16384

noncomputable section

namespace Cert.KernelIdeal.Val

open Idealize.ShloMosaic Idealize.ShloMosaic.TcCoe Cert.KernelIdeal.Gen

section spec

variable (xt : S14336x256.Idx → EReal) (gt bt : S14336x128.Idx → EReal) (av : S2x112x128.Idx → EReal) (sh : S1x256.Idx → EReal)

/-- The normalized value of a channel and a row. -/
def yAt (ch : Fin 14336) (row : Fin 256) : EReal :=
  (xt (ix2 ch row) * av (ix3 ⟨row.val / 128, by omega⟩ ⟨ch.val / 128, by omega⟩ ⟨row.val % 128, by omega⟩)
    + sh (ix2 0 row)) * gt (ix2 ch ⟨row.val % 128, by omega⟩) + bt (ix2 ch ⟨row.val % 128, by omega⟩)

/-- The inverse scale of a block of 128 channels and a row. -/
def invAt (q : Fin 112) (row : Fin 256) : EReal :=
  Expo.inv (amaxOf fun k : Fin 128 => yAt xt gt bt av sh ⟨128 * q.val + k.val, by omega⟩ row)

/-- The block of codes. -/
def YF : S1x256x14336.Idx → EReal := fun j =>
  clipOf (yAt xt gt bt av sh (j 2) (j 1)) (invAt xt gt bt av sh ⟨(j 2).val / 128, Nat.div_lt_of_lt_mul (j 2).isLt⟩ (j 1))

/-- The scratch of inverse scales. -/
def IF : S2x112x128.Idx → EReal := fun j =>
  invAt xt gt bt av sh (j 1) ⟨128 * (j 0).val + (j 2).val, by
    have h0 : (j 0).val < 2 := (j 0).isLt
    have h2 : (j 2).val < 128 := (j 2).isLt
    omega⟩

end spec

theorem trips3 : k0_t3_loop.trips = 28 := by decide +kernel

section loop3

variable (arg13 : Memref sig .tc .vmem S14336x256 .fp8e4m3) (arg14 arg15 : Memref sig .tc .vmem S14336x128 .f32)
  (arg18 : Memref sig .tc .vmem S2x112x128 .f32) (v62 : Ideal .f32) (v69 v78 : FVec Ideal S1x256 .f32)
  (X13 : BufTy.Contents (Elt Ideal) arg13.view.ty) (X14 : BufTy.Contents (Elt Ideal) arg14.view.ty)
  (X15 : BufTy.Contents (Elt Ideal) arg15.view.ty) (X18 : BufTy.Contents (Elt Ideal) arg18.view.ty) (k : Fin k0_t3_loop.trips)

theorem tile0_apply (r : Fin 4) (i l : Fin 128) (ch : Fin 14336) (row : Fin 256)
    (hch : ch.val = 512 * k.val + 128 * r.val + i.val) (hrow : row.val = l.val) :
    tile0 arg13 arg14 arg15 arg18 v62 v69 v78 X13 X14 X15 X18 k r (ix2 i l) = yAt (arg13.view.read (Elt Ideal) X13) (arg14.view.read (Elt Ideal) X14) (arg15.view.read (Elt Ideal) X15) (arg18.view.read (Elt Ideal) X18) (k0_pay120 (F := Ideal) v62 v69 v78) ch row := by
  have hk : k.val < 28 := trips3 ▸ k.isLt
  have q1 : row.val / 128 = 0 := by omega
  have q2 : row.val % 128 = l.val := by omega
  have q3 : ch.val / 128 = 4 * k.val + r.val := by omega
  unfold tile0 yAt
  rw [tY_apply, sl0_apply]
  refine congrArg₂ (· + ·) (congrArg₂ (· * ·) (congrArg₂ (· + ·) (congrArg₂ (· * ·) ?_ ?_) ?_) ?_) ?_
  · refine readAt_unit_at _ _ _ _ _ (k0_off7_eq k r) _ _ fun a => ?_
    match a with
    | 0 => exact hch
    | 1 => simpa using hrow
  · refine readAt_unit_at _ _ _ _ _ (k0_off8_eq k r) _ _ fun a => ?_
    match a with
    | 0 => simpa using q1
    | 1 => simpa using q3
    | 2 => simpa using q2
  · exact congrArg _ (congrArg (ix2 0) (Fin.ext hrow.symm))
  · refine readAt_unit_at _ _ _ _ _ (k0_off6_eq k r) _ _ fun a => ?_
    match a with
    | 0 => exact hch
    | 1 => simpa using q2
  · refine readAt_unit_at _ _ _ _ _ (k0_off6_eq k r) _ _ fun a => ?_
    match a with
    | 0 => exact hch
    | 1 => simpa using q2

theorem goodC0 (r : Fin 4) : GoodAt (e := .fp8e4m3) (YF (arg13.view.read (Elt Ideal) X13) (arg14.view.read (Elt Ideal) X14) (arg15.view.read (Elt Ideal) X15) (arg18.view.read (Elt Ideal) X18) (k0_pay120 (F := Ideal) v62 v69 v78))
    (Rect.unit (s := S1x256x14336) (k0_off9 k (BitVec.ofNat 32 r.val)) S1x128x128.size (k0_off9_inb k r))
    (tC (tile0 arg13 arg14 arg15 arg18 v62 v69 v78 X13 X14 X15 X18 k r)) := by
  have hk : k.val < 28 := trips3 ▸ k.isLt
  refine goodAt_unit _ _ _ _ (k0_off9_eq k r) _ fun x y hy => ?_
  obtain ⟨x1, x2, rfl⟩ : ∃ (a b : Fin 128), x = ix3 (0 : Fin 1) a b := ⟨x 1, x 2, by
    rw [eq_ix3 x]; exact congrArg₂ (ix3 · · _) (Subsingleton.elim (α := Fin 1) _ _) rfl⟩
  have h1 : (y 1).val = 0 + x1.val := hy 1
  have h2 : (y 2).val = 512 * k.val + 128 * r.val + x2.val := hy 2
  have e : ∀ (k' : Fin 128), tile0 arg13 arg14 arg15 arg18 v62 v69 v78 X13 X14 X15 X18 k r (ix2 k' x1)
      = yAt (arg13.view.read (Elt Ideal) X13) (arg14.view.read (Elt Ideal) X14) (arg15.view.read (Elt Ideal) X15) (arg18.view.read (Elt Ideal) X18) (k0_pay120 (F := Ideal) v62 v69 v78) ⟨128 * ((y 2).val / 128) + k'.val, by omega⟩ (y 1) := fun k' =>
    tile0_apply arg13 arg14 arg15 arg18 v62 v69 v78 X13 X14 X15 X18 k r k' x1 _ _ (by simp only; omega) (by omega)
  rw [tC_apply, tile0_apply arg13 arg14 arg15 arg18 v62 v69 v78 X13 X14 X15 X18 k r x2 x1 (y 2) (y 1) h2 (by omega)]
  simp only [e]
  rfl

theorem goodS0 (r : Fin 4) : GoodAt (e := .f32) (IF (arg13.view.read (Elt Ideal) X13) (arg14.view.read (Elt Ideal) X14) (arg15.view.read (Elt Ideal) X15) (arg18.view.read (Elt Ideal) X18) (k0_pay120 (F := Ideal) v62 v69 v78))
    (Rect.unit (s := S2x112x128) (k0_off8 k (BitVec.ofNat 32 r.val)) S1x1x128.size (k0_off8_inb k r))
    (tS (tile0 arg13 arg14 arg15 arg18 v62 v69 v78 X13 X14 X15 X18 k r)) := by
  have hk : k.val < 28 := trips3 ▸ k.isLt
  refine goodAt_unit _ _ _ _ (k0_off8_eq k r) _ fun x y hy => ?_
  obtain ⟨x2, rfl⟩ : ∃ (b : Fin 128), x = ix3 (0 : Fin 1) (0 : Fin 1) b := ⟨x 2, by
    rw [eq_ix3 x]; exact congrArg₂ (ix3 · · _) (Subsingleton.elim (α := Fin 1) _ _) (Subsingleton.elim (α := Fin 1) _ _)⟩
  have h0 : (y 0).val = 0 := hy 0
  have h1 : (y 1).val = 4 * k.val + r.val := hy 1
  have h2 : (y 2).val = x2.val := (hy 2).trans (Nat.zero_add _)
  have e : ∀ (k' : Fin 128), tile0 arg13 arg14 arg15 arg18 v62 v69 v78 X13 X14 X15 X18 k r (ix2 k' x2)
      = yAt (arg13.view.read (Elt Ideal) X13) (arg14.view.read (Elt Ideal) X14) (arg15.view.read (Elt Ideal) X15) (arg18.view.read (Elt Ideal) X18) (k0_pay120 (F := Ideal) v62 v69 v78) ⟨128 * (y 1).val + k'.val, by omega⟩ ⟨128 * (y 0).val + (y 2).val, by omega⟩ := fun k' =>
    tile0_apply arg13 arg14 arg15 arg18 v62 v69 v78 X13 X14 X15 X18 k r k' x2 _ _ (by simp only; omega) (by simp only; omega)
  rw [tS_apply]
  simp only [e]
  rfl

theorem tile1_apply (r : Fin 4) (i l : Fin 128) (ch : Fin 14336) (row : Fin 256)
    (hch : ch.val = 512 * k.val + 128 * r.val + i.val) (hrow : row.val = 128 + l.val) :
    tile1 arg13 arg14 arg15 arg18 v62 v69 v78 X13 X14 X15 X18 k r (ix2 i l) = yAt (arg13.view.read (Elt Ideal) X13) (arg14.view.read (Elt Ideal) X14) (arg15.view.read (Elt Ideal) X15) (arg18.view.read (Elt Ideal) X18) (k0_pay120 (F := Ideal) v62 v69 v78) ch row := by
  have hk : k.val < 28 := trips3 ▸ k.isLt
  have q1 : row.val / 128 = 1 := by omega
  have q2 : row.val % 128 = l.val := by omega
  have q3 : ch.val / 128 = 4 * k.val + r.val := by omega
  unfold tile1 yAt
  rw [tY_apply, sl1_apply]
  refine congrArg₂ (· + ·) (congrArg₂ (· * ·) (congrArg₂ (· + ·) (congrArg₂ (· * ·) ?_ ?_) ?_) ?_) ?_
  · refine readAt_unit_at _ _ _ _ _ (k0_off10_eq k r) _ _ fun a => ?_
    match a with
    | 0 => exact hch
    | 1 => exact hrow
  · refine readAt_unit_at _ _ _ _ _ (k0_off11_eq k r) _ _ fun a => ?_
    match a with
    | 0 => simpa using q1
    | 1 => simpa using q3
    | 2 => simpa using q2
  · exact congrArg _ (congrArg (ix2 0) (Fin.ext hrow.symm))
  · refine readAt_unit_at _ _ _ _ _ (k0_off6_eq k r) _ _ fun a => ?_
    match a with
    | 0 => exact hch
    | 1 => simpa using q2
  · refine readAt_unit_at _ _ _ _ _ (k0_off6_eq k r) _ _ fun a => ?_
    match a with
    | 0 => exact hch
    | 1 => simpa using q2

theorem goodC1 (r : Fin 4) : GoodAt (e := .fp8e4m3) (YF (arg13.view.read (Elt Ideal) X13) (arg14.view.read (Elt Ideal) X14) (arg15.view.read (Elt Ideal) X15) (arg18.view.read (Elt Ideal) X18) (k0_pay120 (F := Ideal) v62 v69 v78))
    (Rect.unit (s := S1x256x14336) (k0_off12 k (BitVec.ofNat 32 r.val)) S1x128x128.size (k0_off12_inb k r))
    (tC (tile1 arg13 arg14 arg15 arg18 v62 v69 v78 X13 X14 X15 X18 k r)) := by
  have hk : k.val < 28 := trips3 ▸ k.isLt
  refine goodAt_unit _ _ _ _ (k0_off12_eq k r) _ fun x y hy => ?_
  obtain ⟨x1, x2, rfl⟩ : ∃ (a b : Fin 128), x = ix3 (0 : Fin 1) a b := ⟨x 1, x 2, by
    rw [eq_ix3 x]; exact congrArg₂ (ix3 · · _) (Subsingleton.elim (α := Fin 1) _ _) rfl⟩
  have h1 : (y 1).val = 128 + x1.val := hy 1
  have h2 : (y 2).val = 512 * k.val + 128 * r.val + x2.val := hy 2
  have e : ∀ (k' : Fin 128), tile1 arg13 arg14 arg15 arg18 v62 v69 v78 X13 X14 X15 X18 k r (ix2 k' x1)
      = yAt (arg13.view.read (Elt Ideal) X13) (arg14.view.read (Elt Ideal) X14) (arg15.view.read (Elt Ideal) X15) (arg18.view.read (Elt Ideal) X18) (k0_pay120 (F := Ideal) v62 v69 v78) ⟨128 * ((y 2).val / 128) + k'.val, by omega⟩ (y 1) := fun k' =>
    tile1_apply arg13 arg14 arg15 arg18 v62 v69 v78 X13 X14 X15 X18 k r k' x1 _ _ (by simp only; omega) h1
  rw [tC_apply, tile1_apply arg13 arg14 arg15 arg18 v62 v69 v78 X13 X14 X15 X18 k r x2 x1 (y 2) (y 1) h2 h1]
  simp only [e]
  rfl

theorem goodS1 (r : Fin 4) : GoodAt (e := .f32) (IF (arg13.view.read (Elt Ideal) X13) (arg14.view.read (Elt Ideal) X14) (arg15.view.read (Elt Ideal) X15) (arg18.view.read (Elt Ideal) X18) (k0_pay120 (F := Ideal) v62 v69 v78))
    (Rect.unit (s := S2x112x128) (k0_off11 k (BitVec.ofNat 32 r.val)) S1x1x128.size (k0_off11_inb k r))
    (tS (tile1 arg13 arg14 arg15 arg18 v62 v69 v78 X13 X14 X15 X18 k r)) := by
  have hk : k.val < 28 := trips3 ▸ k.isLt
  refine goodAt_unit _ _ _ _ (k0_off11_eq k r) _ fun x y hy => ?_
  obtain ⟨x2, rfl⟩ : ∃ (b : Fin 128), x = ix3 (0 : Fin 1) (0 : Fin 1) b := ⟨x 2, by
    rw [eq_ix3 x]; exact congrArg₂ (ix3 · · _) (Subsingleton.elim (α := Fin 1) _ _) (Subsingleton.elim (α := Fin 1) _ _)⟩
  have h0 : (y 0).val = 1 := hy 0
  have h1 : (y 1).val = 4 * k.val + r.val := hy 1
  have h2 : (y 2).val = x2.val := (hy 2).trans (Nat.zero_add _)
  have e : ∀ (k' : Fin 128), tile1 arg13 arg14 arg15 arg18 v62 v69 v78 X13 X14 X15 X18 k r (ix2 k' x2)
      = yAt (arg13.view.read (Elt Ideal) X13) (arg14.view.read (Elt Ideal) X14) (arg15.view.read (Elt Ideal) X15) (arg18.view.read (Elt Ideal) X18) (k0_pay120 (F := Ideal) v62 v69 v78) ⟨128 * (y 1).val + k'.val, by omega⟩ ⟨128 * (y 0).val + (y 2).val, by omega⟩ := fun k' =>
    tile1_apply arg13 arg14 arg15 arg18 v62 v69 v78 X13 X14 X15 X18 k r k' x2 _ _ (by simp only; omega) (by simp only; omega)
  rw [tS_apply]
  simp only [e]
  rfl

end loop3

section run3

variable (𝒱 : Variants) (c : Dev nD) (bd : Option 𝒱.V) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole)
  (v37 : FVec Ideal S112x256 .f32) (v62 : Ideal .f32) (v69 v78 : FVec Ideal S1x256 .f32)
  (X13 : BufTy.Contents (Elt Ideal) arg13.view.ty) (X14 : BufTy.Contents (Elt Ideal) arg14.view.ty)
  (X15 : BufTy.Contents (Elt Ideal) arg15.view.ty) (X18 : BufTy.Contents (Elt Ideal) arg18.view.ty)

theorem trip3_good (k : Fin k0_t3_loop.trips) :
    Good (e := .fp8e4m3) (YF (arg13.view.read (Elt Ideal) X13) (arg14.view.read (Elt Ideal) X14) (arg15.view.read (Elt Ideal) X15) (arg18.view.read (Elt Ideal) X18) (k0_pay120 (F := Ideal) v62 v69 v78)) (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 k).1
    ∧ Good (e := .f32) (IF (arg13.view.read (Elt Ideal) X13) (arg14.view.read (Elt Ideal) X14) (arg15.view.read (Elt Ideal) X15) (arg18.view.read (Elt Ideal) X18) (k0_pay120 (F := Ideal) v62 v69 v78)) (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 k).2 := by
  unfold tripL_k0_t3 trip_k0_t3
  exact ⟨
    .cons (c13 arg13 arg14 arg15 arg18 v62 v69 v78 X13 X14 X15 X18 k ▸ goodC1 arg13 arg14 arg15 arg18 v62 v69 v78 X13 X14 X15 X18 k 3) <| .cons (c03 arg13 arg14 arg15 arg18 v62 v69 v78 X13 X14 X15 X18 k ▸ goodC0 arg13 arg14 arg15 arg18 v62 v69 v78 X13 X14 X15 X18 k 3) <|
    .cons (c12 arg13 arg14 arg15 arg18 v62 v69 v78 X13 X14 X15 X18 k ▸ goodC1 arg13 arg14 arg15 arg18 v62 v69 v78 X13 X14 X15 X18 k 2) <| .cons (c02 arg13 arg14 arg15 arg18 v62 v69 v78 X13 X14 X15 X18 k ▸ goodC0 arg13 arg14 arg15 arg18 v62 v69 v78 X13 X14 X15 X18 k 2) <|
    .cons (c11 arg13 arg14 arg15 arg18 v62 v69 v78 X13 X14 X15 X18 k ▸ goodC1 arg13 arg14 arg15 arg18 v62 v69 v78 X13 X14 X15 X18 k 1) <| .cons (c01 arg13 arg14 arg15 arg18 v62 v69 v78 X13 X14 X15 X18 k ▸ goodC0 arg13 arg14 arg15 arg18 v62 v69 v78 X13 X14 X15 X18 k 1) <|
    .cons (c10 arg13 arg14 arg15 arg18 v62 v69 v78 X13 X14 X15 X18 k ▸ goodC1 arg13 arg14 arg15 arg18 v62 v69 v78 X13 X14 X15 X18 k 0) <| .cons (c00 arg13 arg14 arg15 arg18 v62 v69 v78 X13 X14 X15 X18 k ▸ goodC0 arg13 arg14 arg15 arg18 v62 v69 v78 X13 X14 X15 X18 k 0) .nil,
    .cons (s13 arg13 arg14 arg15 arg18 v62 v69 v78 X13 X14 X15 X18 k ▸ goodS1 arg13 arg14 arg15 arg18 v62 v69 v78 X13 X14 X15 X18 k 3) <| .cons (s03 arg13 arg14 arg15 arg18 v62 v69 v78 X13 X14 X15 X18 k ▸ goodS0 arg13 arg14 arg15 arg18 v62 v69 v78 X13 X14 X15 X18 k 3) <|
    .cons (s12 arg13 arg14 arg15 arg18 v62 v69 v78 X13 X14 X15 X18 k ▸ goodS1 arg13 arg14 arg15 arg18 v62 v69 v78 X13 X14 X15 X18 k 2) <| .cons (s02 arg13 arg14 arg15 arg18 v62 v69 v78 X13 X14 X15 X18 k ▸ goodS0 arg13 arg14 arg15 arg18 v62 v69 v78 X13 X14 X15 X18 k 2) <|
    .cons (s11 arg13 arg14 arg15 arg18 v62 v69 v78 X13 X14 X15 X18 k ▸ goodS1 arg13 arg14 arg15 arg18 v62 v69 v78 X13 X14 X15 X18 k 1) <| .cons (s01 arg13 arg14 arg15 arg18 v62 v69 v78 X13 X14 X15 X18 k ▸ goodS0 arg13 arg14 arg15 arg18 v62 v69 v78 X13 X14 X15 X18 k 1) <|
    .cons (s10 arg13 arg14 arg15 arg18 v62 v69 v78 X13 X14 X15 X18 k ▸ goodS1 arg13 arg14 arg15 arg18 v62 v69 v78 X13 X14 X15 X18 k 0) <| .cons (s00 arg13 arg14 arg15 arg18 v62 v69 v78 X13 X14 X15 X18 k ▸ goodS0 arg13 arg14 arg15 arg18 v62 v69 v78 X13 X14 X15 X18 k 0) .nil⟩

theorem pb3_good (n : ℕ) (hn : n ≤ k0_t3_loop.trips) :
    Good (e := .fp8e4m3) (YF (arg13.view.read (Elt Ideal) X13) (arg14.view.read (Elt Ideal) X14) (arg15.view.read (Elt Ideal) X15) (arg18.view.read (Elt Ideal) X18) (k0_pay120 (F := Ideal) v62 v69 v78)) (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 n).1
    ∧ Good (e := .f32) (IF (arg13.view.read (Elt Ideal) X13) (arg14.view.read (Elt Ideal) X14) (arg15.view.read (Elt Ideal) X15) (arg18.view.read (Elt Ideal) X18) (k0_pay120 (F := Ideal) v62 v69 v78)) (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 n).2 := by
  induction n with
  | zero => exact ⟨.nil, .nil⟩
  | succ n ih =>
    rw [pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 ⟨n, hn⟩]
    obtain ⟨a, b⟩ := trip3_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 ⟨n, hn⟩
    obtain ⟨a', b'⟩ := ih (Nat.le_of_succ_le hn)
    exact ⟨a.append a', b.append b'⟩

theorem pb3_mono (k : Fin k0_t3_loop.trips) (n : ℕ) (hk : k.val < n) (hn : n ≤ k0_t3_loop.trips) :
    (∀ p ∈ (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 k).1, p ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 n).1)
    ∧ (∀ p ∈ (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 k).2, p ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 n).2) := by
  induction n with
  | zero => exact absurd hk (Nat.not_lt_zero _)
  | succ n ih =>
    rw [pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 ⟨n, hn⟩]
    rcases Nat.lt_succ_iff_lt_or_eq.mp hk with h | h
    · obtain ⟨a, b⟩ := ih h (Nat.le_of_succ_le hn)
      exact ⟨fun p hp => List.mem_append_right _ (a p hp), fun p hp => List.mem_append_right _ (b p hp)⟩
    · obtain rfl : k = ⟨n, hn⟩ := Fin.ext h
      exact ⟨fun p hp => List.mem_append_left _ hp, fun p hp => List.mem_append_left _ hp⟩

theorem trip3_cover (k : Fin k0_t3_loop.trips) :
    (∀ y : S1x256x14336.Idx, (y 2).val / 512 = k.val →
      ∃ p ∈ (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 k).1, y ∈ p.1.set)
    ∧ (∀ y : S2x112x128.Idx, (y 1).val / 4 = k.val →
      ∃ p ∈ (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 k).2, y ∈ p.1.set) := by
  have hk : k.val < 28 := trips3 ▸ k.isLt
  unfold tripL_k0_t3 trip_k0_t3
  constructor
  · intro y hy
    have y0 : (y 0).val < 1 := (y 0).isLt
    have y1 : (y 1).val < 256 := (y 1).isLt
    have m9 : ∀ r : Fin 4, (y 1).val < 128 → (y 2).val / 128 % 4 = r.val →
        y ∈ (Rect.unit (s := S1x256x14336) (k0_off9 k (BitVec.ofNat 32 r.val)) S1x128x128.size (k0_off9_inb k r)).set := by
      intro r h1 h2
      rw [Rect.mem_set_unit]; intro a; rw [k0_off9_eq]
      match a with
      | 0 => exact ⟨Nat.zero_le _, by show (y 0).val < 0 + 1; omega⟩
      | 1 => exact ⟨Nat.zero_le _, by show (y 1).val < 0 + 128; omega⟩
      | 2 => exact ⟨by show 512 * k.val + 128 * r.val ≤ (y 2).val; omega, by show (y 2).val < 512 * k.val + 128 * r.val + 128; omega⟩
    have m12 : ∀ r : Fin 4, ¬ (y 1).val < 128 → (y 2).val / 128 % 4 = r.val →
        y ∈ (Rect.unit (s := S1x256x14336) (k0_off12 k (BitVec.ofNat 32 r.val)) S1x128x128.size (k0_off12_inb k r)).set := by
      intro r h1 h2
      rw [Rect.mem_set_unit]; intro a; rw [k0_off12_eq]
      match a with
      | 0 => exact ⟨Nat.zero_le _, by show (y 0).val < 0 + 1; omega⟩
      | 1 => exact ⟨by show 128 ≤ (y 1).val; omega, by show (y 1).val < 128 + 128; omega⟩
      | 2 => exact ⟨by show 512 * k.val + 128 * r.val ≤ (y 2).val; omega, by show (y 2).val < 512 * k.val + 128 * r.val + 128; omega⟩
    have hr : (y 2).val / 128 % 4 = 0 ∨ (y 2).val / 128 % 4 = 1 ∨ (y 2).val / 128 % 4 = 2 ∨ (y 2).val / 128 % 4 = 3 := by omega
    by_cases h : (y 1).val < 128
    · rcases hr with hr | hr | hr | hr
      · exact ⟨_, (.tail _ (.tail _ (.tail _ (.tail _ (.tail _ (.tail _ (.tail _ (List.Mem.head _)))))))), m9 0 h hr⟩
      · exact ⟨_, (.tail _ (.tail _ (.tail _ (.tail _ (.tail _ (List.Mem.head _)))))), m9 1 h hr⟩
      · exact ⟨_, (.tail _ (.tail _ (.tail _ (List.Mem.head _)))), m9 2 h hr⟩
      · exact ⟨_, (.tail _ (List.Mem.head _)), m9 3 h hr⟩
    · rcases hr with hr | hr | hr | hr
      · exact ⟨_, (.tail _ (.tail _ (.tail _ (.tail _ (.tail _ (.tail _ (List.Mem.head _))))))), m12 0 h hr⟩
      · exact ⟨_, (.tail _ (.tail _ (.tail _ (.tail _ (List.Mem.head _))))), m12 1 h hr⟩
      · exact ⟨_, (.tail _ (.tail _ (List.Mem.head _))), m12 2 h hr⟩
      · exact ⟨_, (List.Mem.head _), m12 3 h hr⟩
  · intro y hy
    have y0 : (y 0).val < 2 := (y 0).isLt
    have y2 : (y 2).val < 128 := (y 2).isLt
    have m8 : ∀ r : Fin 4, (y 0).val < 1 → (y 1).val % 4 = r.val →
        y ∈ (Rect.unit (s := S2x112x128) (k0_off8 k (BitVec.ofNat 32 r.val)) S1x1x128.size (k0_off8_inb k r)).set := by
      intro r h1 h2
      rw [Rect.mem_set_unit]; intro a; rw [k0_off8_eq]
      match a with
      | 0 => exact ⟨Nat.zero_le _, by show (y 0).val < 0 + 1; omega⟩
      | 1 => exact ⟨by show 4 * k.val + r.val ≤ (y 1).val; omega, by show (y 1).val < 4 * k.val + r.val + 1; omega⟩
      | 2 => exact ⟨Nat.zero_le _, by show (y 2).val < 0 + 128; omega⟩
    have m11 : ∀ r : Fin 4, ¬ (y 0).val < 1 → (y 1).val % 4 = r.val →
        y ∈ (Rect.unit (s := S2x112x128) (k0_off11 k (BitVec.ofNat 32 r.val)) S1x1x128.size (k0_off11_inb k r)).set := by
      intro r h1 h2
      rw [Rect.mem_set_unit]; intro a; rw [k0_off11_eq]
      match a with
      | 0 => exact ⟨by show 1 ≤ (y 0).val; omega, by show (y 0).val < 1 + 1; omega⟩
      | 1 => exact ⟨by show 4 * k.val + r.val ≤ (y 1).val; omega, by show (y 1).val < 4 * k.val + r.val + 1; omega⟩
      | 2 => exact ⟨Nat.zero_le _, by show (y 2).val < 0 + 128; omega⟩
    have hr : (y 1).val % 4 = 0 ∨ (y 1).val % 4 = 1 ∨ (y 1).val % 4 = 2 ∨ (y 1).val % 4 = 3 := by omega
    by_cases h : (y 0).val < 1
    · rcases hr with hr | hr | hr | hr
      · exact ⟨_, (.tail _ (.tail _ (.tail _ (.tail _ (.tail _ (.tail _ (.tail _ (List.Mem.head _)))))))), m8 0 h hr⟩
      · exact ⟨_, (.tail _ (.tail _ (.tail _ (.tail _ (.tail _ (List.Mem.head _)))))), m8 1 h hr⟩
      · exact ⟨_, (.tail _ (.tail _ (.tail _ (List.Mem.head _)))), m8 2 h hr⟩
      · exact ⟨_, (.tail _ (List.Mem.head _)), m8 3 h hr⟩
    · rcases hr with hr | hr | hr | hr
      · exact ⟨_, (.tail _ (.tail _ (.tail _ (.tail _ (.tail _ (.tail _ (List.Mem.head _))))))), m11 0 h hr⟩
      · exact ⟨_, (.tail _ (.tail _ (.tail _ (.tail _ (List.Mem.head _))))), m11 1 h hr⟩
      · exact ⟨_, (.tail _ (.tail _ (List.Mem.head _))), m11 2 h hr⟩
      · exact ⟨_, (List.Mem.head _), m11 3 h hr⟩

/-- After the pass the codes' block holds `YF`. -/
theorem read_y (G : BufTy.Contents (Elt Ideal) arg9.view.ty) :
    arg9.view.read (Elt Ideal) (arg9.view.writes (Elt Ideal) G (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 k0_t3_loop.trips).1)
      = YF (arg13.view.read (Elt Ideal) X13) (arg14.view.read (Elt Ideal) X14) (arg15.view.read (Elt Ideal) X15) (arg18.view.read (Elt Ideal) X18) (k0_pay120 (F := Ideal) v62 v69 v78) := by
  funext y
  have h2 : (y 2).val < 14336 := (y 2).isLt
  refine View.read_writes_apply_of_pieces _ _ _ _ (pb3_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 _ le_rfl).1 y ?_
  obtain ⟨p, hp, hy⟩ := (trip3_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 ⟨(y 2).val / 512, by rw [trips3]; omega⟩).1 y rfl
  exact ⟨p, (pb3_mono 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 _ _ (Fin.isLt _) le_rfl).1 p hp, hy⟩

/-- After the pass the scratch holds `IF`. -/
theorem read_inv (G : BufTy.Contents (Elt Ideal) arg19.view.ty) :
    arg19.view.read (Elt Ideal) (arg19.view.writes (Elt Ideal) G (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 k0_t3_loop.trips).2)
      = IF (arg13.view.read (Elt Ideal) X13) (arg14.view.read (Elt Ideal) X14) (arg15.view.read (Elt Ideal) X15) (arg18.view.read (Elt Ideal) X18) (k0_pay120 (F := Ideal) v62 v69 v78) := by
  funext y
  have h2 : (y 1).val < 112 := (y 1).isLt
  refine View.read_writes_apply_of_pieces _ _ _ _ (pb3_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 _ le_rfl).2 y ?_
  obtain ⟨p, hp, hy⟩ := (trip3_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 ⟨(y 1).val / 4, by rw [trips3]; omega⟩).2 y rfl
  exact ⟨p, (pb3_mono 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v37 v62 v69 v78 X13 X14 X15 X18 _ _ (Fin.isLt _) le_rfl).2 p hp, hy⟩

end run3

end Cert.KernelIdeal.Val

end

end
-- ==== Proof.Point.lean ====
/- What the kernel computes at a point of its grid from the seven blocks it reads, and how the buffers it fills read back. -/
module

public import proofs.«01_k».proof.Proof.Loop1
public import proofs.«01_k».proof.Proof.Loop2
public import proofs.«01_k».proof.Proof.Loop3

@[expose] public section

set_option maxRecDepth 16384

noncomputable section

namespace Cert.KernelIdeal.Val

open Idealize.ShloMosaic Idealize.ShloMosaic.TcCoe Cert.KernelIdeal.Gen

section spec

variable (x0 : Vec Ideal S1 .f32) (x1 : Vec Ideal S1x256x14336 .fp8e4m3) (x2 : Vec Ideal S1x112x256 .f32)
  (x3 x4 : Vec Ideal S1x1x256 .f32) (x5 x6 : Vec Ideal S112x128 .f32)

/-- The scales, the peer's count, the merged count, mean and sum of squares, and the reciprocal deviation. -/
def scP : FVec Ideal S112x256 .f32 := k0_pay107 (F := Ideal) x2
def cntP : Ideal .f32 := x0 (ix1 0)
def nP : Ideal .f32 := k0_pay110 (F := Ideal) (cntP x0)
def meanP : FVec Ideal S1x256 .f32 := k0_pay113 (F := Ideal) (scP x2) (S1F x1) (cntP x0) x3
def m2P : FVec Ideal S1x256 .f32 := k0_pay114 (F := Ideal) (scP x2) (S1F x1) (S2F x1) (cntP x0) x3 x4
def rsP : FVec Ideal S1x256 .f32 := k0_pay115 (F := Ideal) (nP x0) (m2P x0 x1 x2 x3 x4)

/-- The shift and the factors applied to the codes. -/
def shP : FVec Ideal S1x256 .f32 := k0_pay120 (F := Ideal) (nP x0) (meanP x0 x1 x2 x3) (m2P x0 x1 x2 x3 x4)
def aP : S2x112x128.Idx → EReal := fun j =>
  scP x2 (ix2 (j 1) ⟨128 * (j 0).val + (j 2).val, by
    have h0 : (j 0).val < 2 := (j 0).isLt
    have h2 : (j 2).val < 128 := (j 2).isLt
    omega⟩) * rsP x0 x1 x2 x3 x4 (ix2 0 ⟨128 * (j 0).val + (j 2).val, by
    have h0 : (j 0).val < 2 := (j 0).isLt
    have h2 : (j 2).val < 128 := (j 2).isLt
    omega⟩)

/-- The four blocks the kernel stores, and the scratch of inverse scales. -/
def yP : S1x256x14336.Idx → EReal := YF (XT x1) (GT x5) (GT x6) (aP x0 x1 x2 x3 x4) (shP x0 x1 x2 x3 x4)
def iP : S2x112x128.Idx → EReal := IF (XT x1) (GT x5) (GT x6) (aP x0 x1 x2 x3 x4) (shP x0 x1 x2 x3 x4)
def ysP : S1x112x256.Idx → EReal := fun j =>
  Ideal.div 1 (invAt (XT x1) (GT x5) (GT x6) (aP x0 x1 x2 x3 x4) (shP x0 x1 x2 x3 x4) (j 1) (j 2))
def meanO : S1x1x256.Idx → EReal := k0_pay116 (F := Ideal) (meanP x0 x1 x2 x3)
def rstdO : S1x1x256.Idx → EReal := k0_pay117 (F := Ideal) (nP x0) (m2P x0 x1 x2 x3 x4)

end spec

theorem off0_1 : (![0] : Fin 1 → ℕ) = fun _ => 0 := by decide
theorem off0_2 : (![0, 0] : Fin 2 → ℕ) = fun _ => 0 := by decide
theorem off0_3 : (![0, 0, 0] : Fin 3 → ℕ) = fun _ => 0 := by decide

section whole

variable {s : Shape} {e : EltTy} {sp : Space} (v : View sig .tc sp s e)

/-- A load of everything is the buffer. -/
theorem readAt_all (X : BufTy.Contents (Elt Ideal) v.ty) (off : Fin s.rank → ℕ) (inb : ∀ a, off a + s.size a ≤ s.size a)
    (h : off = fun _ => 0) : v.readAt (Elt Ideal) (Rect.unit (s := s) off s.size inb).toLoadRect X = v.read (Elt Ideal) X :=
  funext fun x => readAt_unit_at v X off s.size inb h x x fun _ => (Nat.zero_add _).symm

/-- A store over everything is the buffer. -/
theorem read_write_all (X : BufTy.Contents (Elt Ideal) v.ty) (off : Fin s.rank → ℕ) (inb : ∀ a, off a + s.size a ≤ s.size a)
    (h : off = fun _ => 0) (w : s.Idx → Elt Ideal e) :
    v.read (Elt Ideal) (v.writes (Elt Ideal) X [⟨Rect.unit (s := s) off s.size inb, w⟩]) = w := by
  funext y
  refine View.read_writes_apply_of_pieces _ _ _ _ (Good.cons (goodAt_unit _ _ _ _ h _ fun x z hz => ?_) .nil) y
    ⟨_, List.Mem.head _, ?_⟩
  · exact congrArg w (funext fun a => Fin.ext ((hz a).trans (Nat.zero_add _)).symm)
  · rw [Rect.mem_set_unit]
    intro a
    rw [h]
    exact ⟨Nat.zero_le _, by rw [Nat.zero_add]; exact (y a).isLt⟩

end whole

section reads

variable (x0 : Vec Ideal S1 .f32) (x1 : Vec Ideal S1x256x14336 .fp8e4m3) (x2 : Vec Ideal S1x112x256 .f32)
  (x3 x4 : Vec Ideal S1x1x256 .f32) (x5 x6 : Vec Ideal S112x128 .f32)
  (arg10 : Memref sig .tc .vmem S1x112x256 .f32) (arg18 arg19 : Memref sig .tc .vmem S2x112x128 .f32)

theorem pay118_apply (v37 : FVec Ideal S112x256 .f32) (v62 : Ideal .f32) (v78 : FVec Ideal S1x256 .f32) (q : Fin 112) (l : Fin 128) :
    k0_pay118 (F := Ideal) v37 v62 v78 (ix3 0 q l)
      = v37 (ix2 q ⟨l.val, by omega⟩) * k0_pay115 (F := Ideal) v62 v78 (ix2 0 ⟨l.val, by omega⟩) := by
  unfold k0_pay118
  generalize k0_pay115 (F := Ideal) v62 v78 = w
  pointwise []

theorem pay119_apply (v37 : FVec Ideal S112x256 .f32) (v62 : Ideal .f32) (v78 : FVec Ideal S1x256 .f32) (q : Fin 112) (l : Fin 128) :
    k0_pay119 (F := Ideal) v37 v62 v78 (ix3 0 q l)
      = v37 (ix2 q ⟨128 + l.val, by omega⟩) * k0_pay115 (F := Ideal) v62 v78 (ix2 0 ⟨128 + l.val, by omega⟩) := by
  unfold k0_pay119
  generalize k0_pay115 (F := Ideal) v62 v78 = w
  pointwise []

/-- The factors' scratch after its two stores. -/
theorem read_a (X : BufTy.Contents (Elt Ideal) arg18.view.ty) :
    arg18.view.read (Elt Ideal) (arg18.view.writes (Elt Ideal) X
      [⟨Rect.unit (s := S2x112x128) ![1, 0, 0] S1x112x128.size inb_S2x112x128_S1x112x128_1_0_0, k0_pay119 (F := Ideal) (scP x2) (nP x0) (m2P x0 x1 x2 x3 x4)⟩,
       ⟨Rect.unit (s := S2x112x128) ![0, 0, 0] S1x112x128.size inb_S2x112x128_S1x112x128_0_0_0, k0_pay118 (F := Ideal) (scP x2) (nP x0) (m2P x0 x1 x2 x3 x4)⟩])
      = aP x0 x1 x2 x3 x4 := by
  funext y
  have y0 : (y 0).val < 2 := (y 0).isLt
  have y2 : (y 2).val < 128 := (y 2).isLt
  refine View.read_writes_apply_of_pieces _ _ _ _ (Good.cons (goodAt_unit _ _ _ _ rfl _ fun x z hz => ?_)
    (.cons (goodAt_unit _ _ _ _ rfl _ fun x z hz => ?_) .nil)) y ?_
  · obtain ⟨q, l, rfl⟩ : ∃ (a : Fin 112) (b : Fin 128), x = ix3 (0 : Fin 1) a b := ⟨x 1, x 2, by
      rw [eq_ix3 x]; exact congrArg₂ (ix3 · · _) (Subsingleton.elim (α := Fin 1) _ _) rfl⟩
    have h0 : (z 0).val = 1 := hz 0
    have h1 : z 1 = q := Fin.ext ((hz 1).trans (Nat.zero_add _))
    have h2 : (z 2).val = l.val := (hz 2).trans (Nat.zero_add _)
    rw [pay119_apply]
    unfold aP rsP
    rw [h1]
    refine congrArg₂ (· * ·) (congrArg (fun r => scP x2 (ix2 q r)) (Fin.ext ?_))
      (congrArg (fun r => k0_pay115 (F := Ideal) (nP x0) (m2P x0 x1 x2 x3 x4) (ix2 0 r)) (Fin.ext ?_)) <;> (simp only; omega)
  · obtain ⟨q, l, rfl⟩ : ∃ (a : Fin 112) (b : Fin 128), x = ix3 (0 : Fin 1) a b := ⟨x 1, x 2, by
      rw [eq_ix3 x]; exact congrArg₂ (ix3 · · _) (Subsingleton.elim (α := Fin 1) _ _) rfl⟩
    have h0 : (z 0).val = 0 := hz 0
    have h1 : z 1 = q := Fin.ext ((hz 1).trans (Nat.zero_add _))
    have h2 : (z 2).val = l.val := (hz 2).trans (Nat.zero_add _)
    rw [pay118_apply]
    unfold aP rsP
    rw [h1]
    refine congrArg₂ (· * ·) (congrArg (fun r => scP x2 (ix2 q r)) (Fin.ext ?_))
      (congrArg (fun r => k0_pay115 (F := Ideal) (nP x0) (m2P x0 x1 x2 x3 x4) (ix2 0 r)) (Fin.ext ?_)) <;> (simp only; omega)
  · by_cases h : (y 0).val < 1
    · refine ⟨_, .tail _ (List.Mem.head _), ?_⟩
      rw [Rect.mem_set_unit]; intro a
      match a with
      | 0 => exact ⟨Nat.zero_le _, by show (y 0).val < 0 + 1; omega⟩
      | 1 => exact ⟨Nat.zero_le _, by show (y 1).val < 0 + 112; have := (y 1).isLt; exact (Nat.zero_add 112).symm ▸ this⟩
      | 2 => exact ⟨Nat.zero_le _, by show (y 2).val < 0 + 128; omega⟩
    · refine ⟨_, List.Mem.head _, ?_⟩
      rw [Rect.mem_set_unit]; intro a
      match a with
      | 0 => exact ⟨by show 1 ≤ (y 0).val; omega, by show (y 0).val < 1 + 1; omega⟩
      | 1 => exact ⟨Nat.zero_le _, by show (y 1).val < 0 + 112; have := (y 1).isLt; exact (Nat.zero_add 112).symm ▸ this⟩
      | 2 => exact ⟨Nat.zero_le _, by show (y 2).val < 0 + 128; omega⟩

theorem pay2_apply (w : Vec Ideal S1x112x128 .f32) (q : Fin 112) (l : Fin 128) :
    k0_pay2 (F := Ideal) w (ix3 0 q l) = Ideal.div 1 (w (ix3 0 q l)) := by
  pointwise [k0_pay2]

theorem pay1_apply (w : Vec Ideal S1x112x128 .f32) (q : Fin 112) (l : Fin 128) :
    k0_pay1 (F := Ideal) (k0_pay122 (F := Ideal) w) (ix3 0 q l) = Ideal.div 1 (w (ix3 0 q l)) := by
  pointwise [k0_pay1, k0_pay122]

/-- The scales' block after its two stores. -/
theorem read_ys (X : BufTy.Contents (Elt Ideal) arg10.view.ty) (X19 : BufTy.Contents (Elt Ideal) arg19.view.ty)
    (h19 : arg19.view.read (Elt Ideal) X19 = iP x0 x1 x2 x3 x4 x5 x6) :
    arg10.view.read (Elt Ideal) (arg10.view.writes (Elt Ideal) X
      [⟨Rect.unit (s := S1x112x256) ![0, 0, 128] S1x112x128.size inb_S1x112x256_S1x112x128_0_0_128,
          k0_pay2 (F := Ideal) (arg19.view.readAt (Elt Ideal) (Rect.unit (s := S2x112x128) ![1, 0, 0] S1x112x128.size inb_S2x112x128_S1x112x128_1_0_0).toLoadRect X19)⟩,
       ⟨Rect.unit (s := S1x112x256) ![0, 0, 0] S1x112x128.size inb_S1x112x256_S1x112x128_0_0_0,
          k0_pay1 (F := Ideal) (k0_pay122 (F := Ideal) (arg19.view.readAt (Elt Ideal) (Rect.unit (s := S2x112x128) ![0, 0, 0] S1x112x128.size inb_S2x112x128_S1x112x128_0_0_0).toLoadRect X19))⟩])
      = ysP x0 x1 x2 x3 x4 x5 x6 := by
  funext y
  have y0 : (y 0).val < 1 := (y 0).isLt
  have y2 : (y 2).val < 256 := (y 2).isLt
  refine View.read_writes_apply_of_pieces _ _ _ _ (Good.cons (goodAt_unit _ _ _ _ rfl _ fun x z hz => ?_)
    (.cons (goodAt_unit _ _ _ _ rfl _ fun x z hz => ?_) .nil)) y ?_
  · obtain ⟨q, l, rfl⟩ : ∃ (a : Fin 112) (b : Fin 128), x = ix3 (0 : Fin 1) a b := ⟨x 1, x 2, by
      rw [eq_ix3 x]; exact congrArg₂ (ix3 · · _) (Subsingleton.elim (α := Fin 1) _ _) rfl⟩
    have h1 : z 1 = q := Fin.ext ((hz 1).trans (Nat.zero_add _))
    have h2 : (z 2).val = 128 + l.val := hz 2
    rw [pay2_apply]
    refine congrArg (Ideal.div 1) ((readAt_unit_at _ _ _ _ _ rfl _ (ix3 1 q l) fun a => ?_).trans ?_)
    · match a with
      | 0 => rfl
      | 1 => exact (Nat.zero_add _).symm
      | 2 => exact (Nat.zero_add _).symm
    · rw [h19, h1]
      exact congrArg (invAt _ _ _ _ _ q) (Fin.ext h2.symm)
  · obtain ⟨q, l, rfl⟩ : ∃ (a : Fin 112) (b : Fin 128), x = ix3 (0 : Fin 1) a b := ⟨x 1, x 2, by
      rw [eq_ix3 x]; exact congrArg₂ (ix3 · · _) (Subsingleton.elim (α := Fin 1) _ _) rfl⟩
    have h1 : z 1 = q := Fin.ext ((hz 1).trans (Nat.zero_add _))
    have h2 : (z 2).val = 0 + l.val := hz 2
    rw [pay1_apply]
    refine congrArg (Ideal.div 1) ((readAt_unit_at _ _ _ _ _ rfl _ (ix3 0 q l) fun a => ?_).trans ?_)
    · match a with
      | 0 => rfl
      | 1 => exact (Nat.zero_add _).symm
      | 2 => exact (Nat.zero_add _).symm
    · rw [h19, h1]
      exact congrArg (invAt _ _ _ _ _ q) (Fin.ext h2.symm)
  · by_cases h : (y 2).val < 128
    · refine ⟨_, .tail _ (List.Mem.head _), ?_⟩
      rw [Rect.mem_set_unit]; intro a
      match a with
      | 0 => exact ⟨Nat.zero_le _, by show (y 0).val < 0 + 1; omega⟩
      | 1 => exact ⟨Nat.zero_le _, by show (y 1).val < 0 + 112; have := (y 1).isLt; exact (Nat.zero_add 112).symm ▸ this⟩
      | 2 => exact ⟨Nat.zero_le _, by show (y 2).val < 0 + 128; omega⟩
    · refine ⟨_, List.Mem.head _, ?_⟩
      rw [Rect.mem_set_unit]; intro a
      match a with
      | 0 => exact ⟨Nat.zero_le _, by show (y 0).val < 0 + 1; omega⟩
      | 1 => exact ⟨Nat.zero_le _, by show (y 1).val < 0 + 112; have := (y 1).isLt; exact (Nat.zero_add 112).symm ▸ this⟩
      | 2 => exact ⟨by show 128 ≤ (y 2).val; omega, by show (y 2).val < 128 + 128; omega⟩

end reads

end Cert.KernelIdeal.Val

end

end
-- ==== Proof.BodyA.lean ====
/- The kernel's body, run at a point of its grid: the blocks it leaves are the point's values. -/
module

public import proofs.«01_k».proof.Proof.Gen.KernelIdeal.Frame
public import proofs.«01_k».proof.Proof.Point
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The grid's first point, where the kernel fills its two scratches of weights. -/
abbrev cond0_0 (i : grid0.Coords) : Prop := k0_cond1 i = 1#1

theorem YF_congr {xt xt' : S14336x256.Idx → EReal} {gt gt' bt bt' : S14336x128.Idx → EReal} {av av' : S2x112x128.Idx → EReal}
    {sh sh' : S1x256.Idx → EReal} (h1 : xt = xt') (h2 : gt = gt') (h3 : bt = bt') (h4 : av = av') (h5 : sh = sh') :
    YF xt gt bt av sh = YF xt' gt' bt' av' sh' := by rw [h1, h2, h3, h4, h5]

theorem IF_congr {xt xt' : S14336x256.Idx → EReal} {gt gt' bt bt' : S14336x128.Idx → EReal} {av av' : S2x112x128.Idx → EReal}
    {sh sh' : S1x256.Idx → EReal} (h1 : xt = xt') (h2 : gt = gt') (h3 : bt = bt') (h4 : av = av') (h5 : sh = sh') :
    IF xt gt bt av sh = IF xt' gt' bt' av' sh' := by rw [h1, h2, h3, h4, h5]

set_option maxHeartbeats 2000000 in
/-- The body at the first point: the two scratches of weights are filled. -/
theorem runA (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : cond0_0 i)
    (x0 : Vec Ideal S1 .f32) (x1 : Vec Ideal S1x256x14336 .fp8e4m3) (x2 : Vec Ideal S1x112x256 .f32) (x3 : Vec Ideal S1x1x256 .f32) (x4 : Vec Ideal S1x1x256 .f32) (x5 : Vec Ideal S112x128 .f32) (x6 : Vec Ideal S112x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yP x0 x1 x2 x3 x4 x5 x6) ∗ owns (c : Thread nD τ) arg10 fullShare (ysP x0 x1 x2 x3 x4 x5 x6) ∗ owns (c : Thread nD τ) arg11 fullShare (meanO x0 x1 x2 x3) ∗ owns (c : Thread nD τ) arg12 fullShare (rstdO x0 x1 x2 x3 x4) ∗ (∃ d, owns (c : Thread nD τ) arg13 fullShare d) ∗ owns (c : Thread nD τ) arg14 fullShare (GT x5) ∗ owns (c : Thread nD τ) arg15 fullShare (GT x6) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := Ideal)) Variants.none c none) E (cc0_layernorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_layernorm_fp8_eq_skeleton]; unfold cc0_layernorm_fp8_skel
    simp only [k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    have e37 : runA.sl.r c arg4 harg4 x2 = scP x2 :=
      congrArg (k0_pay107 (F := Ideal)) ((readAt_all arg4.view _ _ _ off0_3).trans (harg4.read_unread _))
    have e61 : runA.sl.r_1 c arg2 harg2 x0 = cntP x0 :=
      ((congrFun (readAt_all arg2.view _ _ _ off0_1) _).trans (congrFun (harg2.read_unread _) _)).trans
        (congrArg x0 (funext fun a => by match a with | 0 => exact Subsingleton.elim (α := Fin 1) _ _))
    have e62 : runA.sl.r_2 c arg2 harg2 x0 = nP x0 := congrArg (k0_pay110 (F := Ideal)) e61
    have e38 : runA.sl.v38 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 fs3 = S1F x1 :=
      (readAt_all arg16.view _ _ _ off0_2).trans ((read_s1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) fs3).trans
        (congrArg S1F (harg3.read_unread _)))
    have e44 : runA.sl.v44 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 fs4 = S2F x1 :=
      (readAt_all arg17.view _ _ _ off0_2).trans ((read_s2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) fs4).trans
        (congrArg S2F (harg3.read_unread _)))
    have e5 := (readAt_all arg5.view (harg5.unread x3) ![0, 0, 0] inb_S1x1x256_S1x1x256_0_0_0 off0_3).trans (harg5.read_unread _)
    have e6 := (readAt_all arg6.view (harg6.unread x4) ![0, 0, 0] inb_S1x1x256_S1x1x256_0_0_0 off0_3).trans (harg6.read_unread _)
    have e69 : runA.sl.r_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 fs3 = meanP x0 x1 x2 x3 := by
      unfold runA.sl.r_3
      rw [e37, e38, e61, e5]; rfl
    have e78 : runA.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 fs3 fs4 = m2P x0 x1 x2 x3 x4 := by
      unfold runA.sl.r_4
      rw [e37, e38, e44, e61, e5, e6]; rfl
    have e120 : k0_pay120 (F := Ideal) (runA.sl.r_2 c arg2 harg2 x0) (runA.sl.r_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 fs3)
        (runA.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 fs3 fs4) = shP x0 x1 x2 x3 x4 := by rw [e62, e69, e78]; rfl
    have h13 := (read_xt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) fs0).trans (congrArg XT (harg3.read_unread _))
    have h14 := (read_gt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (harg7.unread x5) (harg8.unread x6) fs1).trans (congrArg GT (harg7.read_unread _))
    have h15 := (read_bt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 (harg7.unread x5) (harg8.unread x6) fs2).trans (congrArg GT (harg8.read_unread _))
    have h18 : arg18.view.read (Elt Ideal) (arg18.view.writes (Elt Ideal) arg18.view.junk
        (runA.sl.HS5_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 fs3 fs4)) = aP x0 x1 x2 x3 x4 := by
      unfold runA.sl.HS5_2
      rw [e37, e62, e78]
      exact read_a x0 x1 x2 x3 x4 arg18 _
    have h19 := (read_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (runA.sl.r c arg4 harg4 x2) _ _ _ _ _ _ _ fs6).trans
      (IF_congr h13 h14 h15 h18 e120)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      exact (read_y Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (runA.sl.r c arg4 harg4 x2) _ _ _ _ _ _ _ f7).trans
        (YF_congr h13 h14 h15 h18 e120)
    isplitl [H8]
    · iexists _; isplitr; swap; · iexact H8
      ipureintro
      exact read_ys x0 x1 x2 x3 x4 x5 x6 arg10 arg19 f8 _ h19
    isplitl [H9]
    · iexists _; isplitr; swap; · iexact H9
      ipureintro
      exact (read_write_all arg11.view _ _ _ off0_3 _).trans (congrArg (k0_pay116 (F := Ideal)) e69)
    isplitl [H10]
    · iexists _; isplitr; swap; · iexact H10
      ipureintro
      exact (read_write_all arg12.view _ _ _ off0_3 _).trans (congrArg₂ (k0_pay117 (F := Ideal)) e62 e78)
    isplitl [HS0]
    · iexists _, _; isplitr; swap; · iexact HS0
      ipureintro; rfl
    isplitl [HS1]
    · iexists _; isplitr; swap; · iexact HS1
      ipureintro
      exact h14
    isplitl [HS2]
    · iexists _; isplitr; swap; · iexact HS2
      ipureintro
      exact h15
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Val

end

end
-- ==== Proof.BodyB.lean ====
/- The kernel's body, run at a later point of its grid: the blocks it leaves are the point's values. -/
module

public import proofs.«01_k».proof.Proof.Gen.KernelIdeal.Frame
public import proofs.«01_k».proof.Proof.BodyA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 2000000 in
/-- The body at a later point: the two scratches hold the weights already. -/
theorem runB (c : Dev nD) (i : grid0.Coords) (arg2 : Memref sig .tc .smem S1 .f32) (harg2 : arg2.IsWhole) (arg3 : Memref sig .tc .vmem S1x256x14336 .fp8e4m3) (harg3 : arg3.IsWhole) (arg4 : Memref sig .tc .vmem S1x112x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S112x128 .f32) (harg7 : arg7.IsWhole) (arg8 : Memref sig .tc .vmem S112x128 .f32) (harg8 : arg8.IsWhole) (arg9 : Memref sig .tc .vmem S1x256x14336 .fp8e4m3) (harg9 : arg9.IsWhole) (arg10 : Memref sig .tc .vmem S1x112x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S14336x256 .fp8e4m3) (harg13 : arg13.IsWhole) (arg14 : Memref sig .tc .vmem S14336x128 .f32) (harg14 : arg14.IsWhole) (arg15 : Memref sig .tc .vmem S14336x128 .f32) (harg15 : arg15.IsWhole) (arg16 : Memref sig .tc .vmem S112x256 .f32) (harg16 : arg16.IsWhole) (arg17 : Memref sig .tc .vmem S112x256 .f32) (harg17 : arg17.IsWhole) (arg18 : Memref sig .tc .vmem S2x112x128 .f32) (harg18 : arg18.IsWhole) (arg19 : Memref sig .tc .vmem S2x112x128 .f32) (harg19 : arg19.IsWhole) (hc0 : ¬cond0_0 i)
    (x0 : Vec Ideal S1 .f32) (x1 : Vec Ideal S1x256x14336 .fp8e4m3) (x2 : Vec Ideal S1x112x256 .f32) (x3 : Vec Ideal S1x1x256 .f32) (x4 : Vec Ideal S1x1x256 .f32) (x5 : Vec Ideal S112x128 .f32) (x6 : Vec Ideal S112x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (GT x5) ∗ owns (c : Thread nD τ) arg15 fullShare (GT x6) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yP x0 x1 x2 x3 x4 x5 x6) ∗ owns (c : Thread nD τ) arg10 fullShare (ysP x0 x1 x2 x3 x4 x5 x6) ∗ owns (c : Thread nD τ) arg11 fullShare (meanO x0 x1 x2 x3) ∗ owns (c : Thread nD τ) arg12 fullShare (rstdO x0 x1 x2 x3 x4) ∗ (∃ d, owns (c : Thread nD τ) arg13 fullShare d) ∗ owns (c : Thread nD τ) arg14 fullShare (GT x5) ∗ owns (c : Thread nD τ) arg15 fullShare (GT x6) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := Ideal)) Variants.none c none) E (cc0_layernorm_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_layernorm_fp8_eq_skeleton]; unfold cc0_layernorm_fp8_skel
    simp only [k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg14.eq_unread hfs1; obtain rfl := harg15.eq_unread hfs2
    sl_exec (disch := first | sl_exact hc0)
    sl_step
    have e37 : runB.sl.r c arg4 harg4 x2 = scP x2 :=
      congrArg (k0_pay107 (F := Ideal)) ((readAt_all arg4.view _ _ _ off0_3).trans (harg4.read_unread _))
    have e61 : runB.sl.r_1 c arg2 harg2 x0 = cntP x0 :=
      ((congrFun (readAt_all arg2.view _ _ _ off0_1) _).trans (congrFun (harg2.read_unread _) _)).trans
        (congrArg x0 (funext fun a => by match a with | 0 => exact Subsingleton.elim (α := Fin 1) _ _))
    have e62 : runB.sl.r_2 c arg2 harg2 x0 = nP x0 := congrArg (k0_pay110 (F := Ideal)) e61
    have e38 : runB.sl.v38 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 fs3 = S1F x1 :=
      (readAt_all arg16.view _ _ _ off0_2).trans ((read_s1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) fs3).trans
        (congrArg S1F (harg3.read_unread _)))
    have e44 : runB.sl.v44 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 fs4 = S2F x1 :=
      (readAt_all arg17.view _ _ _ off0_2).trans ((read_s2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) fs4).trans
        (congrArg S2F (harg3.read_unread _)))
    have e5 := (readAt_all arg5.view (harg5.unread x3) ![0, 0, 0] inb_S1x1x256_S1x1x256_0_0_0 off0_3).trans (harg5.read_unread _)
    have e6 := (readAt_all arg6.view (harg6.unread x4) ![0, 0, 0] inb_S1x1x256_S1x1x256_0_0_0 off0_3).trans (harg6.read_unread _)
    have e69 : runB.sl.r_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 fs3 = meanP x0 x1 x2 x3 := by
      unfold runB.sl.r_3
      rw [e37, e38, e61, e5]; rfl
    have e78 : runB.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 fs3 fs4 = m2P x0 x1 x2 x3 x4 := by
      unfold runB.sl.r_4
      rw [e37, e38, e44, e61, e5, e6]; rfl
    have e120 : k0_pay120 (F := Ideal) (runB.sl.r_2 c arg2 harg2 x0) (runB.sl.r_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 fs3)
        (runB.sl.r_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 fs3 fs4) = shP x0 x1 x2 x3 x4 := by rw [e62, e69, e78]; rfl
    have h13 := (read_xt Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) fs0).trans (congrArg XT (harg3.read_unread _))
    have h14 := harg14.read_unread (Val := Elt Ideal) (GT x5)
    have h15 := harg15.read_unread (Val := Elt Ideal) (GT x6)
    have h18 : arg18.view.read (Elt Ideal) (arg18.view.writes (Elt Ideal) arg18.view.junk
        (runB.sl.HS5_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 fs3 fs4)) = aP x0 x1 x2 x3 x4 := by
      unfold runB.sl.HS5_2
      rw [e37, e62, e78]
      exact read_a x0 x1 x2 x3 x4 arg18 _
    have h19 := (read_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (runB.sl.r c arg4 harg4 x2) _ _ _ _ _ _ _ fs6).trans
      (IF_congr h13 h14 h15 h18 e120)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      exact (read_y Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (runB.sl.r c arg4 harg4 x2) _ _ _ _ _ _ _ f7).trans
        (YF_congr h13 h14 h15 h18 e120)
    isplitl [H8]
    · iexists _; isplitr; swap; · iexact H8
      ipureintro
      exact read_ys x0 x1 x2 x3 x4 x5 x6 arg10 arg19 f8 _ h19
    isplitl [H9]
    · iexists _; isplitr; swap; · iexact H9
      ipureintro
      exact (read_write_all arg11.view _ _ _ off0_3 _).trans (congrArg (k0_pay116 (F := Ideal)) e69)
    isplitl [H10]
    · iexists _; isplitr; swap; · iexact H10
      ipureintro
      exact (read_write_all arg12.view _ _ _ off0_3 _).trans (congrArg₂ (k0_pay117 (F := Ideal)) e62 e78)
    isplitl [HS0]
    · iexists _, _; isplitr; swap; · iexact HS0
      ipureintro; rfl
    isplitl [HS1]
    · iexists _; isplitr; swap; · iexact HS1
      ipureintro
      exact h14
    isplitl [HS2]
    · iexists _; isplitr; swap; · iexact HS2
      ipureintro
      exact h15
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Val

end

end
-- ==== Proof.Run.lean ====
/-
The run of the idealized kernel: what each point of its grid leaves in the output blocks, what the two scratch tables it
fills at the first point hold afterwards, and the launch's result as the library computes it from these.
-/
module

public import proofs.«01_k».proof.Proof.BodyA
public import proofs.«01_k».proof.Proof.BodyB
public import proofs.«01_k».proof.Proof.Gen.KernelIdeal.Frame
public import proofs.«01_k».proof.Proof.Gen.KernelIdeal.Points
public import Idealize.ShloMosaic.Lib.Claim
public import Idealize.ShloMosaic.Lib.WordCmp

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The condition under which the tables are filled holds at the grid's first point alone. -/
theorem hcond : ∀ t : Fin grid0.N, cond0_0 (grid0.coords t) ↔ t.val = 0 := fun t => by
  have ht : t.val < 9 := Nat.lt_of_lt_of_eq t.isLt N_0
  have e0 : (grid0.coords t 0).val = t.val / 3 % 3 := Pipeline.Grid.coords_val t 0 (by decide) rfl
  have e1 : (grid0.coords t 1).val = t.val / 1 % 3 := Pipeline.Grid.coords_val t 1 (by decide) rfl
  simp only [cond0_0, k0_cond1, e0, e1]; word_cmp

/-! The staging memrefs of the windows at a point, and the scratch buffers. -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x14336 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x112x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S112x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S112x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x14336 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x112x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
abbrev scM0_0 : Memref sig .tc .vmem S14336x256 .fp8e4m3 := Memref.whole cc0_scratch0
abbrev scM0_1 : Memref sig .tc .vmem S14336x128 .f32 := Memref.whole cc0_scratch1
abbrev scM0_2 : Memref sig .tc .vmem S14336x128 .f32 := Memref.whole cc0_scratch2
abbrev scM0_3 : Memref sig .tc .vmem S112x256 .f32 := Memref.whole cc0_scratch3
abbrev scM0_4 : Memref sig .tc .vmem S112x256 .f32 := Memref.whole cc0_scratch4
abbrev scM0_5 : Memref sig .tc .vmem S2x112x128 .f32 := Memref.whole cc0_scratch5
abbrev scM0_6 : Memref sig .tc .vmem S2x112x128 .f32 := Memref.whole cc0_scratch6

/-- The region's own buffers, each at some contents, with the scratch operands as memrefs. -/
theorem PhiA_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The affine scale's block is the whole array at every point. -/
theorem iblk5 (c : Dev nD) (t t' : Fin cfg0.N) : iblk m c 5 t = iblk m c 5 t' := rfl
/-- The affine shift's block is the whole array at every point. -/
theorem iblk6 (c : Dev nD) (t t' : Fin cfg0.N) : iblk m c 6 t = iblk m c 6 t' := rfl

/-- The invariant before position `n`: before the first point every scratch at anything; afterwards the two tables at the
    affine parameters' values, the others at anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (GT (iblk m c 5 ⟨n, hn⟩)) ∗ owns (c : Thread nD τ) scM0_2 fullShare (GT (iblk m c 6 ⟨n, hn⟩)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop((∃ d, owns (c : Thread nD τ) scM0_0 fullShare d) ∗ owns (c : Thread nD τ) scM0_1 fullShare (GT (iblk m c 5 t)) ∗ owns (c : Thread nD τ) scM0_2 fullShare (GT (iblk m c 6 t)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

/-- Before a point `t` that is not the first: the tables at the values of the blocks at `t`. -/
theorem PhiS_pos (c : Dev nD) (n : ℕ) (h : n ≤ cfg0.N) (hz : n ≠ 0) (t : Fin cfg0.N) :
    PhiS m c n h = iprop(iprop((∃ d, owns (c : Thread nD τ) scM0_0 fullShare d) ∗ owns (c : Thread nD τ) scM0_1 fullShare (GT (iblk m c 5 t)) ∗ owns (c : Thread nD τ) scM0_2 fullShare (GT (iblk m c 6 t)) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n =>
    rw [iblk5 m c t ⟨n, h⟩, iblk6 m c t ⟨n, h⟩]; rfl

/-- The proof data of the pipeline: the input blocks stay, and the four output blocks are the point's values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yP (iblk m c 0 t) (iblk m c 1 t) (iblk m c 2 t) (iblk m c 3 t) (iblk m c 4 t) (iblk m c 5 t) (iblk m c 6 t)
    | ⟨8, _⟩ => ysP (iblk m c 0 t) (iblk m c 1 t) (iblk m c 2 t) (iblk m c 3 t) (iblk m c 4 t) (iblk m c 5 t) (iblk m c 6 t)
    | ⟨9, _⟩ => meanO (iblk m c 0 t) (iblk m c 1 t) (iblk m c 2 t) (iblk m c 3 t)
    | ⟨10, _⟩ => rstdO (iblk m c 0 t) (iblk m c 1 t) (iblk m c 2 t) (iblk m c 3 t) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yP (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = ysP (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = meanO (iblk m c 0 t) (iblk m c 1 t) (iblk m c 2 t) (iblk m c 3 t) := by dsimp only [dats]
theorem after0_10 (c : Dev nD) (t : Fin cfg0.N) : (dats m 0 c).after 10 t = rstdO (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 12800000 in
/-- The body at any point, by its run in the case the point is in. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  by_cases hz : t.val = 0
  · rw [PhiS_castSucc m c t, PhiS_zero m c _ _ hz, PhiA_eq]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ _ _ _ _ _ _ _ _ _ _ ((hcond t).mpr hz) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiS_castSucc m c t, PhiS_pos m c _ _ hz t]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ _ _ _ _ _ _ _ _ _ _ _ _ (fun h => hz ((hcond t).mp h)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht t0_0, PhiA_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexists _; iexact HS1
    isplitl [HS2]
    · iexists _; iexact HS2
    isplitl [HS3]
    · iexact HS3
    isplitl [HS4]
    · iexact HS4
    isplitl [HS5]
    · iexact HS5
    iexact HS6
  iexact Hg

theorem hout (c : Dev nD) : (dats m 0 c).Φ (Fin.last cfg0.N) ⊢ Pipeline.ΦA spec0 c :=
  Phi_out m c _ (by rw [Fin.val_last]; have : cfg0.N = 9 := N_0; omega)

set_option backward.isDefEq.respectTransparency.types false in
/-- The launch: every array of the pipeline ends at what the library computes from the proof data, every other buffer as
    the region found it, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Val

end

end
-- ==== Proof.Row.lean ====
/-
One row of the layer norm on the extended reals: what the kernel computes of it, what the reference computes of it, and that
the two agree on a tame row.
-/
module

public import proofs.«01_k».proof.Proof.Expo
public import proofs.«01_k».proof.Proof.Tile
public import Idealize.ShloMosaic.Lib.IdealHost
public import Mathlib.Tactic.Linarith

@[expose] public section

noncomputable section

namespace Cert.Row

open Idealize.ShloMosaic
open Cert.KernelIdeal.Val (amaxOf clipOf)

/-! ## The constants -/

/-- The number of channels. -/
abbrev cC : EReal := Ideal.ofBits .f32 0x46600000#32
/-- The reciprocal of a block's length. -/
abbrev cR : EReal := Ideal.ofBits .f32 0x3C000000#32
/-- A block's length. -/
abbrev cB : EReal := Ideal.ofBits .f32 0x43000000#32
/-- The small number under the root. -/
abbrev cE : EReal := Ideal.ofBits .f32 0x3727C5AC#32

theorem cC_eq : cC = ((14336 : ℝ) : EReal) := by
  unfold cC
  have e1 : (BitVec.extractLsb' 23 8 0x46600000#32).toNat = 140 := by decide
  have e2 : (BitVec.extractLsb' 0 23 0x46600000#32).toNat = 6291456 := by decide
  have e3 : (BitVec.extractLsb' (8 + 23) 1 0x46600000#32 == 1#1) = false := by decide
  unfold Ideal.ofBits Ideal.ieee
  simp only [e1, e2, e3]
  norm_num
theorem cR_eq : cR = ((1 / 128 : ℝ) : EReal) := by
  unfold cR
  have e1 : (BitVec.extractLsb' 23 8 0x3C000000#32).toNat = 120 := by decide
  have e2 : (BitVec.extractLsb' 0 23 0x3C000000#32).toNat = 0 := by decide
  have e3 : (BitVec.extractLsb' (8 + 23) 1 0x3C000000#32 == 1#1) = false := by decide
  unfold Ideal.ofBits Ideal.ieee
  simp only [e1, e2, e3]
  norm_num
theorem cB_eq : cB = ((128 : ℝ) : EReal) := by
  unfold cB
  have e1 : (BitVec.extractLsb' 23 8 0x43000000#32).toNat = 134 := by decide
  have e2 : (BitVec.extractLsb' 0 23 0x43000000#32).toNat = 0 := by decide
  have e3 : (BitVec.extractLsb' (8 + 23) 1 0x43000000#32 == 1#1) = false := by decide
  unfold Ideal.ofBits Ideal.ieee
  simp only [e1, e2, e3]
  norm_num
theorem cE_eq : ∃ e : ℝ, 0 < e ∧ cE = (e : EReal) := by
  refine ⟨10995116 / 2 ^ 40, by norm_num, ?_⟩
  unfold cE
  have e1 : (BitVec.extractLsb' 23 8 0x3727C5AC#32).toNat = 110 := by decide
  have e2 : (BitVec.extractLsb' 0 23 0x3727C5AC#32).toNat = 2606508 := by decide
  have e3 : (BitVec.extractLsb' (8 + 23) 1 0x3727C5AC#32 == 1#1) = false := by decide
  unfold Ideal.ofBits Ideal.ieee
  simp only [e1, e2, e3]
  norm_num
theorem cQ_eq : ∃ e : ℝ, 0 < e ∧ e ≤ 1 ∧ Ideal.ofBits .f32 0x3B124925#32 = (e : EReal) := by
  refine ⟨9586981 / 2 ^ 32, by norm_num, by norm_num, ?_⟩
  have e1 : (BitVec.extractLsb' 23 8 0x3B124925#32).toNat = 118 := by decide
  have e2 : (BitVec.extractLsb' 0 23 0x3B124925#32).toNat = 1198373 := by decide
  have e3 : (BitVec.extractLsb' (8 + 23) 1 0x3B124925#32 == 1#1) = false := by decide
  unfold Ideal.ofBits Ideal.ieee
  simp only [e1, e2, e3]
  norm_num
theorem cN_eq : Ideal.ofBits .f32 0xFF800000#32 = ⊥ := by
  have e1 : (BitVec.extractLsb' 23 8 0xFF800000#32).toNat = 255 := by decide
  have e2 : (BitVec.extractLsb' 0 23 0xFF800000#32).toNat = 0 := by decide
  have e3 : (BitVec.extractLsb' (8 + 23) 1 0xFF800000#32 == 1#1) = true := by decide
  unfold Ideal.ofBits Ideal.ieee
  simp only [e1, e2, e3]
  norm_num

/-! ## The kernel's row and the reference's row -/

variable (x : Fin 112 → Fin 128 → EReal) (s : Fin 112 → EReal) (n p q : EReal) (g b : Fin 112 → Fin 128 → EReal)

/-- The kernel's mean of this shard: block sums scaled. -/
def kLoc : EReal := Ideal.div (∑ i, s i * ∑ k, x i k) cC
/-- The kernel's merged mean. -/
def kMean : EReal := p + (kLoc x s - p) * Ideal.div cC (n + cC)
/-- The kernel's second moment of block `i` about the shard's mean. -/
def kTerm (i : Fin 112) : EReal :=
  s i * (s i * ((∑ k, x i k * x i k) - (∑ k, x i k) * (∑ k, x i k) * cR))
    + cB * ((s i * (∑ k, x i k) * cR - kLoc x s) * (s i * (∑ k, x i k) * cR - kLoc x s))
/-- The kernel's merged second moment. -/
def kM2 : EReal := (q + ∑ i, kTerm x s i) + (kLoc x s - p) * (kLoc x s - p) * Ideal.div (n * cC) (n + cC)
/-- The reciprocal standard deviation of a second moment. -/
def rsOf (m2 : EReal) : EReal := Ideal.rsqrt (Ideal.div m2 (n + cC) + cE)
/-- The kernel's normalised row. -/
def kY (i : Fin 112) (k : Fin 128) : EReal :=
  (x i k * (s i * rsOf n (kM2 x s n p q)) + (0 - kMean x s n p * rsOf n (kM2 x s n p q))) * g i k + b i k

/-- The reference's mean of this shard. -/
def rLoc : EReal := Ideal.div (∑ i, ∑ k, x i k * s i) cC
/-- The reference's merged mean. -/
def rMean : EReal := p + (rLoc x s - p) * Ideal.div cC (n + cC)
/-- The reference's merged second moment. -/
def rM2 : EReal := (q + ∑ i, ∑ k, (x i k * s i - rLoc x s) * (x i k * s i - rLoc x s))
  + (rLoc x s - p) * (rLoc x s - p) * Ideal.div (n * cC) (n + cC)
/-- The reference's normalised row. -/
def rY (i : Fin 112) (k : Fin 128) : EReal :=
  ((x i k * s i - rMean x s n p) * rsOf n (rM2 x s n p q)) * g i k + b i k
/-- The reference's exponent of block `i`. -/
def rE (i : Fin 112) : EReal := Expo.rexp (amaxOf (rY x s n p q g b i))

/-! ## Agreement on real rows -/

theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

/-- A row of reals. -/
structure Real' where
  X : Fin 112 → Fin 128 → ℝ
  S : Fin 112 → ℝ
  N : ℝ
  P : ℝ
  Q : ℝ

namespace Real'
variable (r : Real')
/-- The shard's mean. -/
def L : ℝ := (∑ i, ∑ k, r.X i k * r.S i) * (1 / 14336)
/-- The merged mean. -/
def M : ℝ := r.P + (r.L - r.P) * (14336 * (1 / (r.N + 14336)))
/-- The merged second moment. -/
def V : ℝ := (r.Q + ∑ i, ∑ k, (r.X i k * r.S i - r.L) * (r.X i k * r.S i - r.L))
  + (r.L - r.P) * (r.L - r.P) * (r.N * 14336 * (1 / (r.N + 14336)))
end Real'

theorem div_c (a : ℝ) {c : ℝ} (h : c ≠ 0) : Ideal.div (a : EReal) (c : EReal) = ((a * (1 / c) : ℝ) : EReal) := by
  rw [Ideal.div_coe h, EReal.coe_mul]

section
variable {x s n p q} {r : Real'} (hx : ∀ i k, x i k = r.X i k) (hs : ∀ i, s i = r.S i) (hn : n = r.N) (hp : p = r.P) (hq : q = r.Q)
include hx hs

theorem rLoc_eq : rLoc x s = r.L := by
  simp only [rLoc, hx, hs, ← EReal.coe_mul, ← coe_sum, cC_eq, Real'.L]
  exact div_c _ (by norm_num)

theorem kLoc_eq : kLoc x s = r.L := by
  simp only [kLoc, hx, hs, ← EReal.coe_mul, ← coe_sum, cC_eq, Real'.L]
  rw [div_c _ (by norm_num)]
  have h : ∀ i, r.S i * ∑ k, r.X i k = ∑ k, r.X i k * r.S i := fun i => by
    rw [Finset.mul_sum]; exact Finset.sum_congr rfl fun k _ => mul_comm _ _
  simp only [h]

include hn hp
theorem rMean_eq (hN : 0 ≤ r.N) : rMean x s n p = r.M := by
  simp only [rMean, rLoc_eq hx hs, hn, hp, cC_eq, Real'.M, ← EReal.coe_add]
  rw [div_c _ (by positivity)]
  simp only [← EReal.coe_mul, ← EReal.coe_sub, ← EReal.coe_add]

theorem kMean_eq (hN : 0 ≤ r.N) : kMean x s n p = r.M := by
  rw [← rMean_eq hx hs hn hp hN]
  simp only [kMean, rMean, rLoc_eq hx hs, kLoc_eq hx hs]

include hq
theorem rM2_eq (hN : 0 ≤ r.N) : rM2 x s n p q = r.V := by
  simp only [rM2, rLoc_eq hx hs, hn, hp, hq, hx, hs, cC_eq, Real'.V, ← EReal.coe_add, ← EReal.coe_mul]
  rw [div_c _ (by positivity)]
  simp only [← EReal.coe_mul, ← EReal.coe_sub, ← EReal.coe_add, ← coe_sum]

omit hx hs hn hp hq in
/-- The second moment of a block about a number, from its sum and its sum of squares. -/
theorem block_moment (X : Fin 128 → ℝ) (S L : ℝ) :
    S * (S * ((∑ k, X k * X k) - (∑ k, X k) * (∑ k, X k) * (1 / 128))) + 128 * ((S * (∑ k, X k) * (1 / 128) - L) * (S * (∑ k, X k) * (1 / 128) - L))
      = ∑ k, (X k * S - L) * (X k * S - L) := by
  have e : ∀ k, (X k * S - L) * (X k * S - L) = S * S * (X k * X k) - 2 * S * L * X k + L * L := fun k => by ring
  simp only [e, Finset.sum_add_distrib, Finset.sum_sub_distrib, ← Finset.mul_sum, Finset.sum_const, Finset.card_univ, Fintype.card_fin,
    nsmul_eq_mul]
  push_cast
  ring

theorem kM2_eq (hN : 0 ≤ r.N) : kM2 x s n p q = r.V := by
  simp only [kM2, kTerm, kLoc_eq hx hs, hn, hp, hq, hx, hs, cC_eq, cR_eq, cB_eq, Real'.V, ← EReal.coe_add, ← EReal.coe_mul]
  rw [div_c _ (by positivity)]
  simp only [← EReal.coe_mul, ← EReal.coe_sub, ← EReal.coe_add, ← coe_sum, block_moment]

end

namespace Real'
variable (r : Real') (hN : 0 ≤ r.N) (hQ : 0 ≤ r.Q)
include hN hQ

theorem V_nonneg : 0 ≤ r.V := by
  unfold V
  have h1 : 0 ≤ ∑ i, ∑ k, (r.X i k * r.S i - r.L) * (r.X i k * r.S i - r.L) :=
    Finset.sum_nonneg fun i _ => Finset.sum_nonneg fun k _ => mul_self_nonneg _
  have h2 : 0 ≤ (r.L - r.P) * (r.L - r.P) := mul_self_nonneg _
  positivity

/-- No entry is further from the merged mean than the second moment allows. -/
theorem dev_le (i : Fin 112) (k : Fin 128) : (r.X i k * r.S i - r.M) * (r.X i k * r.S i - r.M) ≤ 2 * r.V := by
  have h1 : (r.X i k * r.S i - r.L) * (r.X i k * r.S i - r.L) ≤ ∑ i, ∑ k, (r.X i k * r.S i - r.L) * (r.X i k * r.S i - r.L) :=
    le_trans (Finset.single_le_sum (f := fun k => (r.X i k * r.S i - r.L) * (r.X i k * r.S i - r.L)) (fun k _ => mul_self_nonneg _) (Finset.mem_univ k))
      (Finset.single_le_sum (f := fun i => ∑ k, (r.X i k * r.S i - r.L) * (r.X i k * r.S i - r.L))
        (fun i _ => Finset.sum_nonneg fun k _ => mul_self_nonneg _) (Finset.mem_univ i))
  have hn : 0 < r.N + 14336 := by positivity
  have e : r.L - r.M = (r.L - r.P) * (r.N / (r.N + 14336)) := by unfold M; field_simp; ring
  have h2 : (r.L - r.M) * (r.L - r.M) ≤ (r.L - r.P) * (r.L - r.P) * (r.N * 14336 * (1 / (r.N + 14336))) := by
    rw [e, show (r.L - r.P) * (r.N / (r.N + 14336)) * ((r.L - r.P) * (r.N / (r.N + 14336)))
      = (r.L - r.P) * (r.L - r.P) * ((r.N / (r.N + 14336)) * (r.N / (r.N + 14336))) by ring]
    refine mul_le_mul_of_nonneg_left ?_ (mul_self_nonneg _)
    have h3 : r.N / (r.N + 14336) ≤ 1 := by rw [div_le_one hn]; linarith
    have h4 : 0 ≤ r.N / (r.N + 14336) := by positivity
    have h5 : r.N * 14336 * (1 / (r.N + 14336)) = 14336 * (r.N / (r.N + 14336)) := by ring
    rw [h5]; nlinarith
  unfold V
  nlinarith [mul_self_nonneg ((r.X i k * r.S i - r.L) - (r.L - r.M))]

end Real'

section
variable {x s n p q g b} {r : Real'} {G B : Fin 112 → Fin 128 → ℝ} (hx : ∀ i k, x i k = r.X i k) (hs : ∀ i, s i = r.S i) (hn : n = r.N)
  (hp : p = r.P) (hq : q = r.Q) (hg : ∀ i k, g i k = G i k) (hb : ∀ i k, b i k = B i k) (hN : 0 ≤ r.N) (hN' : r.N ≤ 2 ^ 40) (hQ : 0 ≤ r.Q)
  (hG : ∀ i k, |G i k| ≤ 2 ^ 40) (hB : ∀ i k, |B i k| ≤ 2 ^ 40)
include hx hs hn hp hq hN hQ

theorem m2_agree : kM2 x s n p q = rM2 x s n p q := (kM2_eq hx hs hn hp hq hN).trans (rM2_eq hx hs hn hp hq hN).symm

omit hx hs hq hp in
theorem rsOf_eq : ∃ e : ℝ, 0 < e ∧ rsOf n (r.V : EReal) = (((Real.sqrt (r.V * (1 / (r.N + 14336)) + e))⁻¹ : ℝ) : EReal) := by
  obtain ⟨e, he, hE⟩ := cE_eq
  refine ⟨e, he, ?_⟩
  have hv : 0 < r.V * (1 / (r.N + 14336)) + e := by
    have := r.V_nonneg hN hQ
    positivity
  rw [rsOf, hE, hn, cC_eq, ← EReal.coe_add, div_c _ (by positivity), ← EReal.coe_add, Ideal.rsqrt_coe, if_neg (by linarith), if_neg (by linarith)]

include hg hb in
/-- The two normalised rows agree. -/
theorem y_agree (i : Fin 112) (k : Fin 128) : kY x s n p q g b i k = rY x s n p q g b i k := by
  obtain ⟨e, he, h⟩ := rsOf_eq (n := n) (r := r) hn hN hQ
  unfold kY rY
  rw [kM2_eq hx hs hn hp hq hN, rM2_eq hx hs hn hp hq hN, kMean_eq hx hs hn hp hN, rMean_eq hx hs hn hp hN, h, hx, hs, hg, hb, zero_sub]
  simp only [← EReal.coe_mul, ← EReal.coe_sub, ← EReal.coe_add, ← EReal.coe_neg]
  congr 1
  ring

include hg hb hN' hG hB in
/-- The normalised row is real and bounded. -/
theorem y_real (i : Fin 112) (k : Fin 128) : ∃ y : ℝ, rY x s n p q g b i k = y ∧ |y| ≤ 2 ^ 90 := by
  obtain ⟨e, he, h⟩ := rsOf_eq (n := n) (r := r) hn hN hQ
  unfold rY
  rw [rM2_eq hx hs hn hp hq hN, rMean_eq hx hs hn hp hN, h, hx, hs, hg, hb]
  simp only [← EReal.coe_mul, ← EReal.coe_sub, ← EReal.coe_add]
  refine ⟨_, rfl, ?_⟩
  set v := r.V * (1 / (r.N + 14336)) + e with hvd
  have hV := r.V_nonneg hN hQ
  have hv : 0 < v := by positivity
  have hd := r.dev_le hN hQ i k
  set z := r.X i k * r.S i - r.M
  have hn0 : 0 < r.N + 14336 := by positivity
  have h1 : z * z ≤ 2 ^ 42 * v := by
    have h2 : r.V ≤ (r.N + 14336) * v := by
      rw [hvd, mul_add, mul_one_div, mul_div_cancel₀ _ hn0.ne']
      nlinarith
    have h3 : (r.N + 14336) * v ≤ 2 ^ 41 * v := mul_le_mul_of_nonneg_right (by linarith) hv.le
    linarith
  have h4 : |z * (Real.sqrt v)⁻¹| ≤ 2 ^ 21 := by
    have hs0 : 0 < Real.sqrt v := Real.sqrt_pos.mpr hv
    rw [← div_eq_mul_inv, abs_div, abs_of_pos hs0, div_le_iff₀ hs0]
    apply abs_le_of_sq_le_sq _ (by positivity)
    rw [mul_pow, Real.sq_sqrt hv.le]
    nlinarith
  calc |z * (Real.sqrt v)⁻¹ * G i k + B i k| ≤ |z * (Real.sqrt v)⁻¹| * |G i k| + |B i k| := by
        rw [← abs_mul]; exact abs_add_le _ _
    _ ≤ 2 ^ 21 * 2 ^ 40 + 2 ^ 40 := add_le_add (mul_le_mul h4 (hG i k) (abs_nonneg _) (by positivity)) (hB i k)
    _ ≤ 2 ^ 90 := by norm_num

end

/-- The greatest magnitude of a bounded real block over 448 is real, nonnegative and bounded. -/
theorem amax_real (y : Fin 128 → EReal) (h : ∀ k, ∃ z : ℝ, y k = z ∧ |z| ≤ 2 ^ 90) : ∃ a : ℝ, 0 ≤ a ∧ a < 2 ^ 120 ∧ amaxOf y = a := by
  obtain ⟨e, he, he1, hE⟩ := cQ_eq
  have hm : ∀ k, (0 : EReal) ≤ max (y k) (-(y k)) ∧ max (y k) (-(y k)) ≤ ((2 ^ 90 : ℝ) : EReal) := fun k => by
    obtain ⟨z, hz, hb⟩ := h k
    rw [hz, ← EReal.coe_neg, ← EReal.coe_strictMono.monotone.map_max, ← EReal.coe_zero]
    exact ⟨EReal.coe_le_coe_iff.mpr (abs_nonneg z), EReal.coe_le_coe_iff.mpr hb⟩
  set f := Finset.univ.fold max (Ideal.ofBits .f32 0xFF800000#32) (fun k => max (y k) (-(y k))) with hf
  have h0 : (0 : EReal) ≤ f := (Finset.le_fold_max _).mpr (Or.inr ⟨0, Finset.mem_univ _, (hm 0).1⟩)
  have h1 : f ≤ ((2 ^ 90 : ℝ) : EReal) := (Finset.fold_max_le _).mpr ⟨by rw [cN_eq]; exact bot_le, fun k _ => (hm k).2⟩
  obtain ⟨w, hw⟩ : ∃ w : ℝ, f = w := ⟨f.toReal, (EReal.coe_toReal (fun e => absurd (h1.trans_lt (EReal.coe_lt_top _)) (by rw [e]; exact lt_irrefl _))
    (fun e => absurd ((EReal.bot_lt_zero).trans_le h0) (by rw [e]; exact lt_irrefl _))).symm⟩
  rw [hw] at h0 h1
  have h0' : 0 ≤ w := EReal.coe_le_coe_iff.mp (by rw [EReal.coe_zero]; exact h0)
  have h1' : w ≤ 2 ^ 90 := EReal.coe_le_coe_iff.mp h1
  refine ⟨w * e, by positivity, ?_, ?_⟩
  · calc w * e ≤ 2 ^ 90 * 1 := mul_le_mul h1' he1 he.le (by positivity)
      _ < 2 ^ 120 := by norm_num
  · unfold amaxOf; rw [← hf, hw, hE, ← EReal.coe_mul]

/-- The reference's code of an entry. -/
def rCode (i : Fin 112) (k : Fin 128) : EReal := clipOf (rY x s n p q g b i k) (Ideal.exp2 (0 - rE x s n p q g b i))
/-- The kernel's code of an entry. -/
def kCode (i : Fin 112) (k : Fin 128) : EReal := clipOf (kY x s n p q g b i k) (Expo.inv (amaxOf (kY x s n p q g b i)))

/-- What the claim assumes of a row. -/
structure Tame : Prop where
  x : ∀ i k, ∃ z : ℝ, x i k = z
  s : ∀ i, ∃ z : ℝ, s i = z
  n : ∃ z : ℝ, n = z ∧ 0 ≤ z ∧ z ≤ 2 ^ 40
  p : ∃ z : ℝ, p = z
  q : 0 ≤ q
  g : ∀ i k, ∃ z : ℝ, g i k = z ∧ |z| ≤ 2 ^ 40
  b : ∀ i k, ∃ z : ℝ, b i k = z ∧ |z| ≤ 2 ^ 40

/-- A sum that is real without its first term is infinite with infinity for it. -/
theorem top_add_add {A B : EReal} {v : ℝ} (h : (0 + A) + B = v) : (⊤ + A) + B = ⊤ := by
  rw [zero_add] at h
  have hA : A ≠ ⊥ := fun e => by rw [e, EReal.bot_add] at h; exact EReal.bot_ne_coe _ h
  have hB : B ≠ ⊥ := fun e => by rw [e, EReal.add_bot] at h; exact EReal.bot_ne_coe _ h
  rw [EReal.top_add_of_ne_bot hA, EReal.top_add_of_ne_bot hB]

/-- With an infinite second moment the row is divided by infinity. -/
theorem rsOf_top {N : ℝ} (hn : n = N) (hN : 0 ≤ N) : rsOf n ⊤ = 0 := by
  obtain ⟨e, -, hE⟩ := cE_eq
  rw [rsOf, hE, hn, cC_eq, ← EReal.coe_add, Ideal.div_coe (by positivity), EReal.top_mul_coe_of_pos (by positivity), EReal.top_add_coe,
    Ideal.rsqrt_top]

/-- Rows whose means, second moments and normalised entries agree, these bounded reals, have the same four results. -/
theorem agree_of (h1 : kMean x s n p = rMean x s n p) (h2 : kM2 x s n p q = rM2 x s n p q)
    (hy : ∀ i k, kY x s n p q g b i k = rY x s n p q g b i k) (hyr : ∀ i k, ∃ y : ℝ, rY x s n p q g b i k = y ∧ |y| ≤ 2 ^ 90) :
    kMean x s n p = rMean x s n p ∧ rsOf n (kM2 x s n p q) = rsOf n (rM2 x s n p q)
      ∧ (∀ i k, kCode x s n p q g b i k = rCode x s n p q g b i k)
      ∧ ∀ i, Ideal.div 1 (Expo.inv (amaxOf (kY x s n p q g b i))) = Ideal.exp2 (rE x s n p q g b i) := by
  have hinv : ∀ i, Ideal.exp2 (-(rE x s n p q g b i)) = Expo.inv (amaxOf (rY x s n p q g b i))
      ∧ Ideal.exp2 (rE x s n p q g b i) = Ideal.div 1 (Expo.inv (amaxOf (rY x s n p q g b i))) := fun i => by
    obtain ⟨a, h0, h1, ha⟩ := amax_real (rY x s n p q g b i) (hyr i)
    unfold rE; rw [ha]; exact Expo.inv_spec a h0 h1
  have hyf : ∀ i, kY x s n p q g b i = rY x s n p q g b i := fun i => funext fun k => hy i k
  refine ⟨h1, by rw [h2], ?_, ?_⟩
  · intro i k; unfold kCode rCode; rw [hyf, zero_sub, (hinv i).1]
  · intro i; rw [hyf, (hinv i).2]

/-- On a tame row the kernel's four results are the reference's. -/
theorem agree (h : Tame x s n p q g b) :
    kMean x s n p = rMean x s n p ∧ rsOf n (kM2 x s n p q) = rsOf n (rM2 x s n p q)
      ∧ (∀ i k, kCode x s n p q g b i k = rCode x s n p q g b i k)
      ∧ ∀ i, Ideal.div 1 (Expo.inv (amaxOf (kY x s n p q g b i))) = Ideal.exp2 (rE x s n p q g b i) := by
  obtain ⟨hx, hs, ⟨N, hn, hN, hN'⟩, ⟨P, hp⟩, hq, hg, hb⟩ := h
  choose X hx using hx
  choose S hs using hs
  choose G hg hG using hg
  choose B hb hB using hb
  induction q with
  | bot => exact absurd hq (by simp)
  | coe Q =>
    have hQ : 0 ≤ Q := EReal.coe_nonneg.mp hq
    let r : Real' := ⟨X, S, N, P, Q⟩
    exact agree_of _ _ _ _ _ _ _ ((kMean_eq (r := r) hx hs hn hp hN).trans (rMean_eq (r := r) hx hs hn hp hN).symm)
      (m2_agree (r := r) hx hs hn hp rfl hN hQ) (y_agree (r := r) hx hs hn hp rfl hg hb hN hQ)
      (y_real (r := r) hx hs hn hp rfl hg hb hN hN' hQ hG hB)
  | top =>
    let r : Real' := ⟨X, S, N, P, 0⟩
    have hm := (kMean_eq (r := r) hx hs hn hp hN).trans (rMean_eq (r := r) hx hs hn hp hN).symm
    have hk : kM2 x s n p ⊤ = ⊤ := top_add_add (kM2_eq (r := r) (q := 0) hx hs hn hp EReal.coe_zero.symm hN)
    have hr : rM2 x s n p ⊤ = ⊤ := top_add_add (rM2_eq (r := r) (q := 0) hx hs hn hp EReal.coe_zero.symm hN)
    have ek : ∀ i k, kY x s n p ⊤ g b i k = b i k := fun i k => by
      rw [kY, hk, rsOf_top n hn hN, mul_zero, mul_zero, mul_zero, sub_zero, zero_add, zero_mul, zero_add]
    have er : ∀ i k, rY x s n p ⊤ g b i k = b i k := fun i k => by
      rw [rY, hr, rsOf_top n hn hN, mul_zero, zero_mul, zero_add]
    exact agree_of _ _ _ _ _ _ _ hm (hk.trans hr.symm) (fun i k => (ek i k).trans (er i k).symm)
      (fun i k => ⟨B i k, (er i k).trans (hb i k), (hB i k).trans (by norm_num)⟩)

end Cert.Row

end

end
-- ==== Proof.KVal.lean ====
/- The blocks the kernel stores at a point of its grid, row by row. -/
module

public import proofs.«01_k».proof.Proof.Point
public import proofs.«01_k».proof.Proof.Row

@[expose] public section

set_option maxRecDepth 16384

noncomputable section

namespace Cert.KernelIdeal.Val

open Idealize.ShloMosaic Idealize.ShloMosaic.TcCoe Cert.KernelIdeal.Gen Cert.Row

section rows

variable (x0 : Vec Ideal S1 .f32) (x1 : Vec Ideal S1x256x14336 .fp8e4m3) (x2 : Vec Ideal S1x112x256 .f32)
  (x3 x4 : Vec Ideal S1x1x256 .f32) (x5 x6 : Vec Ideal S112x128 .f32)

/-- A row of the block's codes, in blocks of 128. -/
def xB (r : Fin 256) : Fin 112 → Fin 128 → EReal := fun i k => x1 (ix3 0 r ⟨128 * i.val + k.val, by omega⟩)
/-- A row's scales. -/
def sB (r : Fin 256) : Fin 112 → EReal := fun i => x2 (ix3 0 i r)
/-- A row's entry of a block of per-row numbers. -/
def pB (r : Fin 256) : EReal := x3 (ix3 0 0 r)
/-- A table of channel weights. -/
def gB : Fin 112 → Fin 128 → EReal := fun i k => x5 (ix2 i k)

theorem loc_apply (r : Fin 256) : k0_pay109 (F := Ideal) (scP x2) (S1F x1) (ix2 0 r) = kLoc (xB x1 r) (sB x2 r) := by
  unfold scP
  pointwise [k0_pay109, k0_pay108, k0_pay107]
  rfl

theorem mean_apply (r : Fin 256) :
    meanP x0 x1 x2 x3 (ix2 0 r) = kMean (xB x1 r) (sB x2 r) (cntP x0) (pB x3 r) := by
  have h := loc_apply x1 x2 r
  unfold meanP kMean
  rw [← h]
  generalize scP x2 = sc
  unfold k0_pay113 k0_pay112
  generalize k0_pay109 (F := Ideal) sc (S1F x1) = l
  pointwise [k0_pay110, k0_pay111]
  rfl

theorem m2_apply (r : Fin 256) :
    m2P x0 x1 x2 x3 x4 (ix2 0 r) = kM2 (xB x1 r) (sB x2 r) (cntP x0) (pB x3 r) (pB x4 r) := by
  have h := loc_apply x1 x2 r
  unfold m2P kM2 kTerm
  rw [← h]
  unfold scP k0_pay114 k0_pay112
  generalize k0_pay109 (F := Ideal) (k0_pay107 (F := Ideal) x2) (S1F x1) = l
  pointwise [k0_pay110, k0_pay111, k0_pay108, k0_pay107]
  rfl

theorem rs_apply (r : Fin 256) :
    rsP x0 x1 x2 x3 x4 (ix2 0 r) = rsOf (cntP x0) (kM2 (xB x1 r) (sB x2 r) (cntP x0) (pB x3 r) (pB x4 r)) := by
  have h := m2_apply x0 x1 x2 x3 x4 r
  unfold rsP
  rw [← h]
  generalize m2P x0 x1 x2 x3 x4 = w
  unfold nP
  pointwise [k0_pay115, k0_pay110]
  rfl

theorem sh_apply (r : Fin 256) :
    shP x0 x1 x2 x3 x4 (ix2 0 r) = 0 - meanP x0 x1 x2 x3 (ix2 0 r) * rsP x0 x1 x2 x3 x4 (ix2 0 r) := by
  unfold shP rsP
  generalize meanP x0 x1 x2 x3 = u
  unfold k0_pay120
  generalize k0_pay115 (F := Ideal) (nP x0) (m2P x0 x1 x2 x3 x4) = w
  pointwise []

theorem meanO_apply (r : Fin 256) : meanO x0 x1 x2 x3 (ix3 0 0 r) = meanP x0 x1 x2 x3 (ix2 0 r) := by
  unfold meanO
  generalize meanP x0 x1 x2 x3 = u
  pointwise [k0_pay116]

theorem rstdO_apply (r : Fin 256) : rstdO x0 x1 x2 x3 x4 (ix3 0 0 r) = rsP x0 x1 x2 x3 x4 (ix2 0 r) := by
  unfold rstdO rsP k0_pay117
  generalize k0_pay115 (F := Ideal) (nP x0) (m2P x0 x1 x2 x3 x4) = w
  pointwise []

theorem y_apply (r : Fin 256) (i : Fin 112) (k : Fin 128) :
    yAt (XT x1) (GT x5) (GT x6) (aP x0 x1 x2 x3 x4) (shP x0 x1 x2 x3 x4) ⟨128 * i.val + k.val, by omega⟩ r
      = kY (xB x1 r) (sB x2 r) (cntP x0) (pB x3 r) (pB x4 r) (gB x5) (gB x6) i k := by
  have e1 : (⟨(128 * i.val + k.val) / 128, by omega⟩ : Fin 112) = i := Fin.ext (by show (128 * i.val + k.val) / 128 = _; omega)
  have e2 : (⟨(128 * i.val + k.val) % 128, by omega⟩ : Fin 128) = k := Fin.ext (by show (128 * i.val + k.val) % 128 = _; omega)
  have ha : aP x0 x1 x2 x3 x4 (ix3 ⟨r.val / 128, by omega⟩ i ⟨r.val % 128, by omega⟩)
      = x2 (ix3 0 i r) * rsP x0 x1 x2 x3 x4 (ix2 0 r) := by
    have e3 : (⟨128 * (r.val / 128) + r.val % 128, by omega⟩ : Fin 256) = r :=
      Fin.ext (by show 128 * (r.val / 128) + r.val % 128 = _; omega)
    have hs : ∀ z : Fin 256, scP x2 (ix2 i z) = x2 (ix3 0 i z) := fun z => by
      unfold scP; pointwise [k0_pay107]
    show scP x2 (ix2 i ⟨128 * (r.val / 128) + r.val % 128, _⟩) * rsP x0 x1 x2 x3 x4 (ix2 0 ⟨128 * (r.val / 128) + r.val % 128, _⟩) = _
    rw [e3, hs]
  have hg : ∀ w : Vec Ideal S112x128 .f32, GT w (ix2 ⟨128 * i.val + k.val, by omega⟩ ⟨r.val % 128, by omega⟩) = w (ix2 i k) := fun w => by
    show w (ix2 ⟨(128 * i.val + k.val) / 128, _⟩ ⟨(128 * i.val + k.val) % 128, _⟩) = _
    rw [e1, e2]
  unfold yAt
  rw [e1, hg, hg, ha, sh_apply, mean_apply, rs_apply]
  rfl

theorem inv_apply (r : Fin 256) (i : Fin 112) :
    invAt (XT x1) (GT x5) (GT x6) (aP x0 x1 x2 x3 x4) (shP x0 x1 x2 x3 x4) i r
      = Expo.inv (amaxOf (kY (xB x1 r) (sB x2 r) (cntP x0) (pB x3 r) (pB x4 r) (gB x5) (gB x6) i)) := by
  unfold invAt
  exact congrArg (fun f => Expo.inv (amaxOf f)) (funext fun k => y_apply x0 x1 x2 x3 x4 x5 x6 r i k)

/-- The block of codes, at a row and a channel. -/
theorem yP_apply (r : Fin 256) (i : Fin 112) (k : Fin 128) :
    yP x0 x1 x2 x3 x4 x5 x6 (ix3 0 r ⟨128 * i.val + k.val, by omega⟩)
      = kCode (xB x1 r) (sB x2 r) (cntP x0) (pB x3 r) (pB x4 r) (gB x5) (gB x6) i k := by
  have e1 : (⟨(128 * i.val + k.val) / 128, by omega⟩ : Fin 112) = i := Fin.ext (by show (128 * i.val + k.val) / 128 = _; omega)
  show clipOf (yAt _ _ _ _ _ ⟨128 * i.val + k.val, _⟩ r) (invAt _ _ _ _ _ ⟨(128 * i.val + k.val) / 128, _⟩ r) = _
  rw [e1, y_apply, inv_apply]
  rfl

/-- The block of scales, at a row and a block of channels. -/
theorem ysP_apply (r : Fin 256) (i : Fin 112) :
    ysP x0 x1 x2 x3 x4 x5 x6 (ix3 0 i r)
      = Ideal.div 1 (Expo.inv (amaxOf (kY (xB x1 r) (sB x2 r) (cntP x0) (pB x3 r) (pB x4 r) (gB x5) (gB x6) i))) := by
  rw [← inv_apply]
  rfl

end rows

end Cert.KernelIdeal.Val
-- ==== Proof.RVal.lean ====
/- What the reference computes, row by row. -/
module

public import proofs.«01_k».proof.Proof.Gen.ReferenceIdeal.Value
public import proofs.«01_k».proof.Proof.Row
public import Idealize.ShloMosaic.Lib.Pointwise

@[expose] public section

set_option maxRecDepth 16384

noncomputable section

namespace Cert.ReferenceIdeal.Val

open Idealize.ShloMosaic Idealize.ShloMosaic.TcCoe Cert.ReferenceIdeal Cert.ReferenceIdeal.Gen Cert.Row

section rows

variable (v0 : Vec Ideal S3x768x14336 .fp8e4m3) (v4 : Vec Ideal S3x768x112 .f32) (v16 : Ideal .f32)
  (v17 v25 : Vec Ideal S1x3x768 .f32) (v39 v41 : Vec Ideal S14336 .f32)

/-- A row of the codes, in blocks of 128. -/
def xR (b : Fin 3) (r : Fin 768) : Fin 112 → Fin 128 → EReal := fun i k => v0 (ix3 b r ⟨128 * i.val + k.val, by omega⟩)
/-- A row's scales. -/
def sR (b : Fin 3) (r : Fin 768) : Fin 112 → EReal := fun i => v4 (ix3 b r i)
/-- A row's entry of an array of per-row numbers. -/
def pR (b : Fin 3) (r : Fin 768) : EReal := v17 (ix3 0 b r)
/-- The channel weights, in blocks of 128. -/
def gR : Fin 112 → Fin 128 → EReal := fun i k => v39 (ix1 ⟨128 * i.val + k.val, by omega⟩)

theorem ch_eq (i : Fin 112) (k : Fin 128) : (⟨i.val * 128 + k.val, by omega⟩ : Fin 14336) = ⟨128 * i.val + k.val, by omega⟩ :=
  Fin.ext (by show i.val * 128 + k.val = 128 * i.val + k.val; omega)

theorem deq_apply (b : Fin 3) (r : Fin 768) (i : Fin 112) (k : Fin 128) :
    k0_pay3 (F := Ideal) v0 v4 (ix4 b r i k) = xR v0 b r i k * sR v4 b r i := by
  unfold xR sR
  rw [← ch_eq]
  pointwise [k0_pay3]

theorem loc_apply (b : Fin 3) (r : Fin 768) : k0_pay4 (F := Ideal) v0 v4 (ix2 b r) = rLoc (xR v0 b r) (sR v4 b r) := by
  have h := deq_apply v0 v4 b r
  unfold rLoc k0_pay4
  simp only [← h]
  generalize k0_pay3 (F := Ideal) v0 v4 = w
  pointwise []

theorem mean_apply (b : Fin 3) (r : Fin 768) :
    k0_pay8 (F := Ideal) v0 v4 v16 v17 (ix2 b r) = rMean (xR v0 b r) (sR v4 b r) v16 (pR v17 b r) := by
  have h := loc_apply v0 v4 b r
  unfold rMean k0_pay8 k0_pay7
  rw [← h]
  generalize k0_pay4 (F := Ideal) v0 v4 = l
  pointwise [k0_pay5, k0_pay6]
  rfl

theorem rs_apply (b : Fin 3) (r : Fin 768) :
    k0_pay9 (F := Ideal) v0 v4 v16 v17 v25 (ix2 b r)
      = rsOf v16 (rM2 (xR v0 b r) (sR v4 b r) v16 (pR v17 b r) (pR v25 b r)) := by
  have h := loc_apply v0 v4 b r
  have h' := deq_apply v0 v4 b r
  unfold rsOf rM2 k0_pay9 k0_pay7
  simp only [← h, ← h']
  generalize k0_pay4 (F := Ideal) v0 v4 = l
  generalize k0_pay3 (F := Ideal) v0 v4 = w
  pointwise [k0_pay5, k0_pay6]
  rfl

theorem y_apply (b : Fin 3) (r : Fin 768) (i : Fin 112) (k : Fin 128) :
    k0_pay10 (F := Ideal) (k0_pay3 (F := Ideal) v0 v4) (k0_pay8 (F := Ideal) v0 v4 v16 v17) (k0_pay9 (F := Ideal) v0 v4 v16 v17 v25) v39 v41
        (ix4 b r i k)
      = rY (xR v0 b r) (sR v4 b r) v16 (pR v17 b r) (pR v25 b r) (gR v39) (gR v41) i k := by
  unfold rY
  rw [← mean_apply, ← rs_apply, ← deq_apply]
  unfold gR
  rw [← ch_eq]
  generalize k0_pay3 (F := Ideal) v0 v4 = w
  generalize k0_pay8 (F := Ideal) v0 v4 v16 v17 = u
  generalize k0_pay9 (F := Ideal) v0 v4 v16 v17 v25 = z
  pointwise [k0_pay10]

section quantise

variable (v7 : FVec Ideal S3x768x112x128 .f32) (v24 v38 : FVec Ideal S3x768 .f32)

theorem exp2_eq (z : Ideal .f32) : FloatOps.exp2 z = Ideal.exp2 z := rfl

/-- The largest magnitude of a block. -/
theorem max_of (y : FVec Ideal S3x768x112x128 .f32) (b : Fin 3) (r : Fin 768) (i : Fin 112) :
    multiReduction .maximumf [3] S3x768x112 (absf y) 0xFF800000#32 reduces_S3x768x112x128_S3x768x112 (.inl rfl) rfl (ix3 b r i)
      = Finset.univ.fold max (Ideal.ofBits .f32 0xFF800000#32) (fun k : Fin 128 => max (y (ix4 b r i k)) (-(y (ix4 b r i k)))) := by
  pointwise []
  simp only [Ideal.absf_def]

/-- The exponent of a block, from its largest magnitude. -/
theorem exp_of (u : FVec Ideal S3x768x112 .f32) (j : S3x768x112.Idx) :
    (select (cmpf .olt (mulf u (broadcast S3x768x112 (Scalar.ofBits .f32 0x3B124925#32))) (broadcast S3x768x112 (Scalar.ofBits .f32 0x00800000#32)))
      (broadcast S3x768x112 (Scalar.ofBits .f32 0x00000000#32))
      (addf (floor (divf (log (mulf u (broadcast S3x768x112 (Scalar.ofBits .f32 0x3B124925#32)))) (log (broadcast S3x768x112 (Scalar.ofBits .f32 0x40000000#32)))))
        (broadcast S3x768x112 (Scalar.ofBits .f32 0x3F800000#32))) : FVec Ideal S3x768x112 .f32) j
      = Expo.rexp (u j * Ideal.ofBits .f32 0x3B124925#32) := by
  unfold Expo.rexp
  pointwise []

theorem e_of (b : Fin 3) (r : Fin 768) (i : Fin 112) :
    k0_pay11 (F := Ideal) v7 v24 v38 v39 v41 (ix3 b r i)
      = Expo.rexp (Cert.KernelIdeal.Val.amaxOf fun k => k0_pay10 (F := Ideal) v7 v24 v38 v39 v41 (ix4 b r i k)) := by
  unfold k0_pay11
  generalize k0_pay10 (F := Ideal) v7 v24 v38 v39 v41 = y
  have h := max_of y b r i
  unfold Cert.KernelIdeal.Val.amaxOf
  rw [← h]
  exact exp_of _ _

/-- The codes of a block, from its entries and its exponent. -/
theorem clip_of (y : FVec Ideal S3x768x112x128 .f32) (e : FVec Ideal S3x768x112 .f32) (b : Fin 3) (r : Fin 768) (i : Fin 112) (k : Fin 128) :
    (shapeCast S3x768x14336 (truncf .fp8e4m3 (minimumf (broadcast S3x768x112x128 (Scalar.ofBits .f32 0x43E00000#32))
      (maximumf (broadcast S3x768x112x128 (Scalar.ofBits .f32 0xC3E00000#32))
        (mulf y (broadcastTo S3x768x112x128 (shapeCast S3x768x112x1 (exp2 (subf (broadcast S3x768x112 (Scalar.ofBits .f32 0x00000000#32)) e))
          shapeCasts_S3x768x112_S3x768x112x1) broadcasts_S3x768x112x1_S3x768x112x128)))) bitsLt_fp8e4m3_f32 : FVec Ideal S3x768x112x128 .fp8e4m3)
      shapeCasts_S3x768x112x128_S3x768x14336 : FVec Ideal S3x768x14336 .fp8e4m3) (ix3 b r ⟨128 * i.val + k.val, by omega⟩)
      = Cert.KernelIdeal.Val.clipOf (y (ix4 b r i k)) (Ideal.exp2 (0 - e (ix3 b r i))) := by
  rw [← ch_eq]
  unfold Cert.KernelIdeal.Val.clipOf
  pointwise []
  simp only [exp2_eq]

theorem code_of (b : Fin 3) (r : Fin 768) (i : Fin 112) (k : Fin 128) :
    k0_pay12 (F := Ideal) v7 v24 v38 v39 v41 (ix3 b r ⟨128 * i.val + k.val, by omega⟩)
      = Cert.KernelIdeal.Val.clipOf (k0_pay10 (F := Ideal) v7 v24 v38 v39 v41 (ix4 b r i k))
          (Ideal.exp2 (0 - k0_pay11 (F := Ideal) v7 v24 v38 v39 v41 (ix3 b r i))) := by
  unfold k0_pay12
  exact clip_of _ _ b r i k

/-- The scales, from the exponents. -/
theorem pow_of (e : FVec Ideal S3x768x112 .f32) (b : Fin 3) (r : Fin 768) (i : Fin 112) :
    (transpose S3x112x768 [0, 2, 1] (exp2 e) transposes_S3x768x112_p0_2_1_S3x112x768 : FVec Ideal S3x112x768 .f32) (ix3 b i r)
      = Ideal.exp2 (e (ix3 b r i)) := by
  pointwise []
  rfl

theorem scale_of (b : Fin 3) (r : Fin 768) (i : Fin 112) :
    k0_pay13 (F := Ideal) v7 v24 v38 v39 v41 (ix3 b i r)
      = Ideal.exp2 (k0_pay11 (F := Ideal) v7 v24 v38 v39 v41 (ix3 b r i)) := by
  unfold k0_pay13
  exact pow_of _ b r i

end quantise

theorem e_apply (b : Fin 3) (r : Fin 768) (i : Fin 112) :
    k0_pay11 (F := Ideal) (k0_pay3 (F := Ideal) v0 v4) (k0_pay8 (F := Ideal) v0 v4 v16 v17) (k0_pay9 (F := Ideal) v0 v4 v16 v17 v25) v39 v41 (ix3 b r i)
      = rE (xR v0 b r) (sR v4 b r) v16 (pR v17 b r) (pR v25 b r) (gR v39) (gR v41) i :=
  (e_of v39 v41 _ _ _ b r i).trans (congrArg (fun f => Expo.rexp (Cert.KernelIdeal.Val.amaxOf f))
    (funext fun k => y_apply v0 v4 v16 v17 v25 v39 v41 b r i k))

theorem code_apply (b : Fin 3) (r : Fin 768) (i : Fin 112) (k : Fin 128) :
    k0_pay12 (F := Ideal) (k0_pay3 (F := Ideal) v0 v4) (k0_pay8 (F := Ideal) v0 v4 v16 v17) (k0_pay9 (F := Ideal) v0 v4 v16 v17 v25) v39 v41
        (ix3 b r ⟨128 * i.val + k.val, by omega⟩)
      = rCode (xR v0 b r) (sR v4 b r) v16 (pR v17 b r) (pR v25 b r) (gR v39) (gR v41) i k :=
  (code_of v39 v41 _ _ _ b r i k).trans (congrArg₂ (fun u e => Cert.KernelIdeal.Val.clipOf u (Ideal.exp2 (0 - e)))
    (y_apply v0 v4 v16 v17 v25 v39 v41 b r i k) (e_apply v0 v4 v16 v17 v25 v39 v41 b r i))

theorem scale_apply (b : Fin 3) (r : Fin 768) (i : Fin 112) :
    k0_pay13 (F := Ideal) (k0_pay3 (F := Ideal) v0 v4) (k0_pay8 (F := Ideal) v0 v4 v16 v17) (k0_pay9 (F := Ideal) v0 v4 v16 v17 v25) v39 v41 (ix3 b i r)
      = Ideal.exp2 (rE (xR v0 b r) (sR v4 b r) v16 (pR v17 b r) (pR v25 b r) (gR v39) (gR v41) i) :=
  (scale_of v39 v41 _ _ _ b r i).trans (congrArg Ideal.exp2 (e_apply v0 v4 v16 v17 v25 v39 v41 b r i))

theorem pay1_apply (u : FVec Ideal S3x768 .f32) (b : Fin 3) (r : Fin 768) : k0_pay1 (F := Ideal) u (ix3 b 0 r) = u (ix2 b r) := by
  pointwise [k0_pay1]

theorem pay2_apply (u : FVec Ideal S3x768 .f32) (b : Fin 3) (r : Fin 768) : k0_pay2 (F := Ideal) u (ix3 b 0 r) = u (ix2 b r) := by
  pointwise [k0_pay2]

end rows

end Cert.ReferenceIdeal.Val
-- ==== Proof.KFin.lean ====
/- The kernel's final arrays, row by row. -/
module

public import proofs.«01_k».proof.Proof.Run
public import proofs.«01_k».proof.Proof.KVal
public import proofs.«01_k».proof.Proof.RVal
public import Idealize.ShloMosaic.Lib.Pipeline.ValueKit
public import Idealize.ShloMosaic.Lib.Claim

@[expose] public section

set_option maxRecDepth 16384

noncomputable section

namespace Cert.KernelIdeal.Val

open Idealize.ShloMosaic Idealize.ShloMosaic.TcCoe Cert.KernelIdeal Cert.KernelIdeal.Gen Cert.Row
open Cert.ReferenceIdeal.Val (xR sR pR gR)
open Idealize.ShloMosaic.Pipeline (Dat)

variable (m : (ℓ : Loc nD τ sig) → Buf (Elt Ideal) ℓ)

/-- The arguments. -/
def A0 (c : Dev nD) : Vec Ideal S3x768x14336 .fp8e4m3 := bitcastToFloat (F := Ideal) .fp8e4m3 (m ((c : Thread nD τ).loc main_arg0))
def A1 (c : Dev nD) : Vec Ideal S3x768x112 .f32 := m ((c : Thread nD τ).loc main_arg1)
def A2 (c : Dev nD) : Vec Ideal S1 .f32 := m ((c : Thread nD τ).loc main_arg2)
def A3 (c : Dev nD) : Vec Ideal S1x3x768 .f32 := m ((c : Thread nD τ).loc main_arg3)
def A4 (c : Dev nD) : Vec Ideal S1x3x768 .f32 := m ((c : Thread nD τ).loc main_arg4)
def A5 (c : Dev nD) : Vec Ideal S14336 .f32 := m ((c : Thread nD τ).loc main_arg5)
def A6 (c : Dev nD) : Vec Ideal S14336 .f32 := m ((c : Thread nD τ).loc main_arg6)

theorem idx : ∀ t : Fin cfg0.N, win0_0.index t = ![0] ∧ win0_1.index t = ![t.val / 3, t.val % 3, 0]
    ∧ win0_2.index t = ![t.val / 3, 0, t.val % 3] ∧ win0_3.index t = ![t.val / 3, 0, t.val % 3] ∧ win0_4.index t = ![t.val / 3, 0, t.val % 3]
    ∧ win0_5.index t = ![0, 0] ∧ win0_6.index t = ![0, 0] ∧ win0_7.index t = ![t.val / 3, t.val % 3, 0]
    ∧ win0_8.index t = ![t.val / 3, 0, t.val % 3] ∧ win0_9.index t = ![t.val / 3, 0, t.val % 3] ∧ win0_10.index t = ![t.val / 3, 0, t.val % 3] :=
  (by decide +kernel : ∀ t : Fin grid0.N, _)

theorem lt_N : ∀ t : Fin cfg0.N, t.val < 9 := (by decide +kernel : ∀ t : Fin grid0.N, t.val < 9)

/-- The batch and the row of a point's row. -/
def bT (t : Fin cfg0.N) : Fin 3 := ⟨t.val / 3, by have := lt_N t; omega⟩
def rT (t : Fin cfg0.N) (r : Fin 256) : Fin 768 := ⟨t.val % 3 * 256 + r.val, by omega⟩

theorem cnt_blk (c : Dev nD) (t : Fin cfg0.N) : cntP (iblk m c 0 t) = A2 m c (ix1 0) := by
  unfold cntP A2
  blk_ext [iblk, V, idx t]

theorem x_blk (c : Dev nD) (t : Fin cfg0.N) (r : Fin 256) : xB (iblk m c 1 t) r = xR (A0 m c) (bT t) (rT t r) := by
  funext i k
  unfold xB xR A0 bT rT
  blk_simp [iblk]
  entry_read
  refine congrArg (bitcastToFloat (F := Ideal) .fp8e4m3 (m ((c : Thread nD τ).loc main_arg0))) ?_
  blk_ext [idx t]

theorem s_blk (c : Dev nD) (t : Fin cfg0.N) (r : Fin 256) : sB (iblk m c 2 t) r = sR (A1 m c) (bT t) (rT t r) := by
  funext i
  unfold sB sR A1 bT rT
  blk_simp [iblk]
  entry_read
  pointwise []
  blk_ext [idx t]

theorem p_blk (c : Dev nD) (t : Fin cfg0.N) (r : Fin 256) : pB (iblk m c 3 t) r = pR (A3 m c) (bT t) (rT t r) := by
  unfold pB pR A3 bT rT
  blk_simp [iblk]
  entry_read
  pointwise []
  blk_ext [idx t]

theorem q_blk (c : Dev nD) (t : Fin cfg0.N) (r : Fin 256) : pB (iblk m c 4 t) r = pR (A4 m c) (bT t) (rT t r) := by
  unfold pB pR A4 bT rT
  blk_simp [iblk]
  entry_read
  pointwise []
  blk_ext [idx t]

theorem g_blk (c : Dev nD) (t : Fin cfg0.N) : gB (iblk m c 5 t) = gR (A5 m c) := by
  funext i k
  unfold gB gR A5
  blk_simp [iblk]
  entry_read
  pointwise []
  blk_ext [idx t]

theorem b_blk (c : Dev nD) (t : Fin cfg0.N) : gB (iblk m c 6 t) = gR (A6 m c) := by
  funext i k
  unfold gB gR A6
  blk_simp [iblk]
  entry_read
  pointwise []
  blk_ext [idx t]

end Cert.KernelIdeal.Val
-- ==== Proof.KOut.lean ====
/- The kernel's four result arrays over its arguments. -/
module

public import proofs.«01_k».proof.Proof.KFin

@[expose] public section

set_option maxRecDepth 16384

noncomputable section

namespace Cert.KernelIdeal.Val

open Idealize.ShloMosaic Idealize.ShloMosaic.TcCoe Cert.KernelIdeal Cert.KernelIdeal.Gen Cert.Row
open Cert.ReferenceIdeal.Val (xR sR pR gR)
open Idealize.ShloMosaic.Pipeline (Dat)

variable (m : (ℓ : Loc nD τ sig) → Buf (Elt Ideal) ℓ)

/-- What a row of each result holds. -/
def row7 (c : Dev nD) (b : Fin 3) (r : Fin 768) (i : Fin 112) (k : Fin 128) : EReal :=
  kCode (xR (A0 m c) b r) (sR (A1 m c) b r) (A2 m c (ix1 0)) (pR (A3 m c) b r) (pR (A4 m c) b r) (gR (A5 m c)) (gR (A6 m c)) i k
def row8 (c : Dev nD) (b : Fin 3) (i : Fin 112) (r : Fin 768) : EReal :=
  Ideal.div 1 (Expo.inv (amaxOf (kY (xR (A0 m c) b r) (sR (A1 m c) b r) (A2 m c (ix1 0)) (pR (A3 m c) b r) (pR (A4 m c) b r)
    (gR (A5 m c)) (gR (A6 m c)) i)))
def row9 (c : Dev nD) (b : Fin 3) (r : Fin 768) : EReal :=
  kMean (xR (A0 m c) b r) (sR (A1 m c) b r) (A2 m c (ix1 0)) (pR (A3 m c) b r)
def row10 (c : Dev nD) (b : Fin 3) (r : Fin 768) : EReal :=
  rsOf (A2 m c (ix1 0)) (kM2 (xR (A0 m c) b r) (sR (A1 m c) b r) (A2 m c (ix1 0)) (pR (A3 m c) b r) (pR (A4 m c) b r))

/-- The four arrays. -/
def G7 (c : Dev nD) : S3x768x14336.Idx → EReal := fun j =>
  row7 m c (j 0) (j 1) ⟨(j 2).val / 128, Nat.div_lt_of_lt_mul (j 2).isLt⟩ ⟨(j 2).val % 128, Nat.mod_lt _ (by decide)⟩
def G8 (c : Dev nD) : S3x112x768.Idx → EReal := fun j => row8 m c (j 0) (j 1) (j 2)
def G9 (c : Dev nD) : S3x1x768.Idx → EReal := fun j => row9 m c (j 0) (j 2)
def G10 (c : Dev nD) : S3x1x768.Idx → EReal := fun j => row10 m c (j 0) (j 2)

theorem one_row (y : S1x1x256.Idx) : ∃ r : Fin 256, y = ix3 0 0 r := ⟨y 2, by
  rw [eq_ix3 y]
  exact congrArg₂ (fun a b => ix3 a b (y 2)) (Subsingleton.elim (α := Fin 1) _ _) (Subsingleton.elim (α := Fin 1) _ _)⟩

theorem final9 (c : Dev nD) : (dats m 0 c).arrAt 9 cfg0.N = G9 m c := by
  refine (dats m 0 c).arrAt_eq_of_covers 9 (G9 m c) (by decide +kernel) fun t _ y => ?_
  blk_simp
  rw [after0_9]
  obtain ⟨r, rfl⟩ := one_row y
  have he : ((cfg0.win 9).blk t).view.emb (ix3 0 0 r : S1x1x256.Idx) = ix3 (bT t) 0 (rT t r) := by
    unfold bT rT; blk_ext [idx t]
  refine (?_ : meanO (iblk m c 0 t) (iblk m c 1 t) (iblk m c 2 t) (iblk m c 3 t) (ix3 0 0 r) = G9 m c (ix3 (bT t) 0 (rT t r))).trans
    (congrArg (G9 m c) he.symm)
  rw [meanO_apply, mean_apply, x_blk, s_blk, cnt_blk, p_blk]
  rfl

theorem final10 (c : Dev nD) : (dats m 0 c).arrAt 10 cfg0.N = G10 m c := by
  refine (dats m 0 c).arrAt_eq_of_covers 10 (G10 m c) (by decide +kernel) fun t _ y => ?_
  blk_simp
  rw [after0_10]
  obtain ⟨r, rfl⟩ := one_row y
  have he : ((cfg0.win 10).blk t).view.emb (ix3 0 0 r : S1x1x256.Idx) = ix3 (bT t) 0 (rT t r) := by
    unfold bT rT; blk_ext [idx t]
  refine (?_ : rstdO (iblk m c 0 t) (iblk m c 1 t) (iblk m c 2 t) (iblk m c 3 t) (iblk m c 4 t) (ix3 0 0 r) = G10 m c (ix3 (bT t) 0 (rT t r))).trans
    (congrArg (G10 m c) he.symm)
  rw [rstdO_apply, rs_apply, x_blk, s_blk, cnt_blk, p_blk, q_blk]
  rfl

theorem final8 (c : Dev nD) : (dats m 0 c).arrAt 8 cfg0.N = G8 m c := by
  refine (dats m 0 c).arrAt_eq_of_covers 8 (G8 m c) (by decide +kernel) fun t _ y => ?_
  blk_simp
  rw [after0_8]
  obtain ⟨i, r, rfl⟩ : ∃ (i : Fin 112) (r : Fin 256), y = (ix3 0 i r : S1x112x256.Idx) := ⟨y 1, y 2, by
    rw [eq_ix3 y]; exact congrArg (fun a => ix3 a (y 1) (y 2)) (Subsingleton.elim (α := Fin 1) _ _)⟩
  have he : ((cfg0.win 8).blk t).view.emb (ix3 0 i r : S1x112x256.Idx) = ix3 (bT t) i (rT t r) := by
    unfold bT rT; blk_ext [idx t]
  refine (?_ : ysP (iblk m c 0 t) (iblk m c 1 t) (iblk m c 2 t) (iblk m c 3 t) (iblk m c 4 t) (iblk m c 5 t) (iblk m c 6 t) (ix3 0 i r)
    = G8 m c (ix3 (bT t) i (rT t r))).trans (congrArg (G8 m c) he.symm)
  rw [ysP_apply, x_blk, s_blk, cnt_blk, p_blk, q_blk, g_blk, b_blk]
  rfl

/-- A channel of a row in `G7`. -/
theorem G7_apply (c : Dev nD) (b : Fin 3) (r : Fin 768) (i : Fin 112) (k : Fin 128) :
    G7 m c (ix3 b r ⟨128 * i.val + k.val, by omega⟩) = row7 m c b r i k := by
  show row7 m c b r ⟨(128 * i.val + k.val) / 128, _⟩ ⟨(128 * i.val + k.val) % 128, _⟩ = _
  exact congrArg₂ (row7 m c b r) (Fin.ext (by show (128 * i.val + k.val) / 128 = i.val; omega))
    (Fin.ext (by show (128 * i.val + k.val) % 128 = k.val; omega))

theorem channel (ch : Fin 14336) : ∃ (i : Fin 112) (k : Fin 128), ch = ⟨128 * i.val + k.val, by omega⟩ :=
  ⟨⟨ch.val / 128, by omega⟩, ⟨ch.val % 128, by omega⟩, Fin.ext (by show ch.val = 128 * (ch.val / 128) + ch.val % 128; omega)⟩

theorem final7 (c : Dev nD) : (dats m 0 c).arrAt 7 cfg0.N = G7 m c := by
  refine (dats m 0 c).arrAt_eq_of_covers 7 (G7 m c) (by decide +kernel) fun t _ y => ?_
  blk_simp
  rw [after0_7]
  obtain ⟨r, i, k, rfl⟩ : ∃ (r : Fin 256) (i : Fin 112) (k : Fin 128), y = (ix3 0 r ⟨128 * i.val + k.val, by omega⟩ : S1x256x14336.Idx) := by
    obtain ⟨i, k, e⟩ := channel (y 2)
    refine ⟨y 1, i, k, ?_⟩
    rw [← e, eq_ix3 y]
    exact congrArg (fun a => ix3 a (y 1) (y 2)) (Subsingleton.elim (α := Fin 1) _ _)
  have he : ((cfg0.win 7).blk t).view.emb (ix3 0 r ⟨128 * i.val + k.val, by omega⟩ : S1x256x14336.Idx)
      = ix3 (bT t) (rT t r) ⟨128 * i.val + k.val, by omega⟩ := by
    unfold bT rT; blk_ext [idx t]
  refine (?_ : yP (iblk m c 0 t) (iblk m c 1 t) (iblk m c 2 t) (iblk m c 3 t) (iblk m c 4 t) (iblk m c 5 t) (iblk m c 6 t)
      (ix3 0 r ⟨128 * i.val + k.val, by omega⟩)
    = G7 m c (ix3 (bT t) (rT t r) ⟨128 * i.val + k.val, by omega⟩)).trans (congrArg (G7 m c) he.symm)
  rw [yP_apply, x_blk, s_blk, cnt_blk, p_blk, q_blk, g_blk, b_blk, G7_apply]
  rfl

end Cert.KernelIdeal.Val
-- ==== Proof.RFin.lean ====
/- The reference's final arrays, row by row. -/
module

public import proofs.«01_k».proof.Proof.RVal
public import Idealize.ShloMosaic.Lib.Pipeline.ValueKit
public import Idealize.ShloMosaic.Lib.Pipeline.ReadBack
public import Idealize.ShloMosaic.Lib.Claim

@[expose] public section

set_option maxRecDepth 16384

noncomputable section

namespace Cert.ReferenceIdeal.Val

open Idealize.ShloMosaic Idealize.ShloMosaic.TcCoe Cert.ReferenceIdeal Cert.ReferenceIdeal.Gen Cert.Row
open Idealize.ShloMosaic.Pipeline (Dat)

variable (m : (ℓ : Loc nD τ sig) → Buf (Elt Ideal) ℓ)

/-- The arguments. -/
def A0 (c : Dev nD) : Vec Ideal S3x768x14336 .fp8e4m3 := bitcastToFloat (F := Ideal) .fp8e4m3 (m ((c : Thread nD τ).loc main_arg0))
def A1 (c : Dev nD) : Vec Ideal S3x768x112 .f32 := m ((c : Thread nD τ).loc main_arg1)
def A2 (c : Dev nD) : Vec Ideal S1 .f32 := m ((c : Thread nD τ).loc main_arg2)
def A3 (c : Dev nD) : Vec Ideal S1x3x768 .f32 := m ((c : Thread nD τ).loc main_arg3)
def A4 (c : Dev nD) : Vec Ideal S1x3x768 .f32 := m ((c : Thread nD τ).loc main_arg4)
def A5 (c : Dev nD) : Vec Ideal S14336 .f32 := m ((c : Thread nD τ).loc main_arg5)
def A6 (c : Dev nD) : Vec Ideal S14336 .f32 := m ((c : Thread nD τ).loc main_arg6)

theorem idx : ∀ t : Fin cfg0.N, win0_0.index t = ![0, 0, 0] ∧ win0_1.index t = ![0, 0, 0] ∧ win0_2.index t = ![0]
    ∧ win0_3.index t = ![0, 0, 0] ∧ win0_4.index t = ![0, 0, 0] ∧ win0_5.index t = ![0] ∧ win0_6.index t = ![0]
    ∧ win0_7.index t = ![0, 0, 0] ∧ win0_8.index t = ![0, 0, 0] ∧ win0_9.index t = ![0, 0, 0] ∧ win0_10.index t = ![0, 0, 0] :=
  (by decide +kernel : ∀ t : Fin grid0.N, _)

theorem iblk1 (c : Dev nD) (t : Fin cfg0.N) : iblk m c 1 t = A1 m c := by
  unfold A1
  blk_ext! [iblk, V, idx t]

theorem iblk0 (c : Dev nD) (t : Fin cfg0.N) : iblk m c 0 t = A0 m c := by
  unfold A0
  funext j
  blk_simp [iblk]
  entry_read
  refine congrArg (bitcastToFloat (F := Ideal) .fp8e4m3 (m ((c : Thread nD τ).loc main_arg0))) ?_
  blk_ext [idx t]

theorem iblk2 (c : Dev nD) (t : Fin cfg0.N) : iblk m c 2 t = A2 m c := by
  unfold A2
  blk_ext! [iblk, V, idx t]
theorem iblk3 (c : Dev nD) (t : Fin cfg0.N) : iblk m c 3 t = A3 m c := by
  unfold A3
  blk_ext! [iblk, V, idx t]
theorem iblk4 (c : Dev nD) (t : Fin cfg0.N) : iblk m c 4 t = A4 m c := by
  unfold A4
  blk_ext! [iblk, V, idx t]
theorem iblk5 (c : Dev nD) (t : Fin cfg0.N) : iblk m c 5 t = A5 m c := by
  unfold A5
  blk_ext! [iblk, V, idx t]
theorem iblk6 (c : Dev nD) (t : Fin cfg0.N) : iblk m c 6 t = A6 m c := by
  unfold A6
  blk_ext! [iblk, V, idx t]

theorem one_eq (j j' : S1.Idx) : j = j' := by
  rw [eq_ix1 j, eq_ix1 j']
  exact congrArg ix1 (Subsingleton.elim (α := Fin 1) _ _)

theorem final7 (c : Dev nD) : (dats m 0 c).arrAt 7 cfg0.N
    = k0_pay12 (F := Ideal) (k0_pay3 (F := Ideal) (A0 m c) (A1 m c)) (k0_pay8 (F := Ideal) (A0 m c) (A1 m c) (A2 m c (ix1 0)) (A3 m c))
      (k0_pay9 (F := Ideal) (A0 m c) (A1 m c) (A2 m c (ix1 0)) (A3 m c) (A4 m c)) (A5 m c) (A6 m c) := by
  refine (dats m 0 c).arrAt_eq_of_after_last 7 t0_0 (by decide +kernel) _ fun j => ?_
  blk_simp
  rw [after0_7]
  simp only [outsAt0]
  frame_out
  simp only [read_unread_whole, iblk0, iblk1, iblk2, iblk3, iblk4, iblk5, iblk6, one_eq _ (ix1 0)]

theorem final8 (c : Dev nD) : (dats m 0 c).arrAt 8 cfg0.N
    = k0_pay13 (F := Ideal) (k0_pay3 (F := Ideal) (A0 m c) (A1 m c)) (k0_pay8 (F := Ideal) (A0 m c) (A1 m c) (A2 m c (ix1 0)) (A3 m c))
      (k0_pay9 (F := Ideal) (A0 m c) (A1 m c) (A2 m c (ix1 0)) (A3 m c) (A4 m c)) (A5 m c) (A6 m c) := by
  refine (dats m 0 c).arrAt_eq_of_after_last 8 t0_0 (by decide +kernel) _ fun j => ?_
  blk_simp
  rw [after0_8]
  frame_out
  simp only [read_unread_whole, iblk0, iblk1, iblk2, iblk3, iblk4, iblk5, iblk6, one_eq _ (ix1 0)]

theorem final9 (c : Dev nD) : (dats m 0 c).arrAt 9 cfg0.N
    = k0_pay1 (F := Ideal) (k0_pay8 (F := Ideal) (A0 m c) (A1 m c) (A2 m c (ix1 0)) (A3 m c)) := by
  refine (dats m 0 c).arrAt_eq_of_after_last 9 t0_0 (by decide +kernel) _ fun j => ?_
  blk_simp
  rw [after0_9]
  frame_out
  simp only [read_unread_whole, iblk0, iblk1, iblk2, iblk3, iblk4, iblk5, iblk6, one_eq _ (ix1 0)]

theorem final10 (c : Dev nD) : (dats m 0 c).arrAt 10 cfg0.N
    = k0_pay2 (F := Ideal) (k0_pay9 (F := Ideal) (A0 m c) (A1 m c) (A2 m c (ix1 0)) (A3 m c) (A4 m c)) := by
  refine (dats m 0 c).arrAt_eq_of_after_last 10 t0_0 (by decide +kernel) _ fun j => ?_
  blk_simp
  rw [after0_10]
  frame_out
  simp only [read_unread_whole, iblk0, iblk1, iblk2, iblk3, iblk4, iblk5, iblk6, one_eq _ (ix1 0)]

end Cert.ReferenceIdeal.Val
-- ==== Proof.Pre.lean ====
/- What the precondition says of each row of the reference's arguments. -/
module

public import proofs.«01_k».proof.Proof.Gen.Pre_tame
public import proofs.«01_k».proof.Proof.RVal

@[expose] public section

set_option maxRecDepth 16384

noncomputable section

namespace Cert.Pre_tame.Val

open Idealize.ShloMosaic Idealize.ShloMosaic.TcCoe Cert.Pre_tame Cert.Pre_tame.Gen Cert.Row

theorem top_eq : Ideal.ofBits .f32 0x7F800000#32 = ⊤ := by
  have e1 : (BitVec.extractLsb' 23 8 0x7F800000#32).toNat = 255 := by decide
  have e2 : (BitVec.extractLsb' 0 23 0x7F800000#32).toNat = 0 := by decide
  have e3 : (BitVec.extractLsb' (8 + 23) 1 0x7F800000#32 == 1#1) = false := by decide
  unfold Ideal.ofBits Ideal.ieee
  simp only [e1, e2, e3]
  norm_num

theorem big_eq : Ideal.ofBits .f32 0x53800000#32 = ((2 ^ 40 : ℝ) : EReal) := by
  have e1 : (BitVec.extractLsb' 23 8 0x53800000#32).toNat = 167 := by decide
  have e2 : (BitVec.extractLsb' 0 23 0x53800000#32).toNat = 0 := by decide
  have e3 : (BitVec.extractLsb' (8 + 23) 1 0x53800000#32 == 1#1) = false := by decide
  unfold Ideal.ofBits Ideal.ieee
  simp only [e1, e2, e3]
  norm_num

theorem bit_iff (P : Prop) [Decidable P] : BitVec.ofBool (decide P) = 1#1 ↔ P := by
  by_cases h : P <;> simp [h]

theorem and_bits (x y : BitVec 1) (h : IntOp.andi x y = 1#1) : x = 1#1 ∧ y = 1#1 := by
  have hx : ∀ z : BitVec 1, z = 0#1 ∨ z = 1#1 := fun z => by
    have := z.isLt
    rcases (by omega : z.toNat = 0 ∨ z.toNat = 1) with e | e
    · exact .inl (BitVec.eq_of_toNat_eq e)
    · exact .inr (BitVec.eq_of_toNat_eq e)
  rcases hx x with rfl | rfl <;> rcases hx y with rfl | rfl <;> first | exact ⟨rfl, rfl⟩ | exact absurd h (by decide)

theorem real_of_lt (z : EReal) (h : max z (-z) < ⊤) : ∃ r : ℝ, z = r := by
  induction z with
  | bot => exact absurd h (by simp)
  | coe r => exact ⟨r, rfl⟩
  | top => exact absurd h (by simp)

theorem real_of_le (z : EReal) (h : max z (-z) ≤ ((2 ^ 40 : ℝ) : EReal)) : ∃ r : ℝ, z = r ∧ |r| ≤ 2 ^ 40 := by
  obtain ⟨r, rfl⟩ := real_of_lt z (h.trans_lt (EReal.coe_lt_top _))
  refine ⟨r, rfl, abs_le'.mpr ⟨EReal.coe_le_coe_iff.mp ((le_max_left _ _).trans h), EReal.coe_le_coe_iff.mp ?_⟩⟩
  rw [EReal.coe_neg]
  exact (le_max_right _ _).trans h

/-- A code that is no NaN is a real. -/
theorem code_real (v : BitVec 8) (h : v ≠ 127#8 ∧ v ≠ 255#8) : ∃ r : ℝ, Ideal.ofBits .fp8e4m3 v = r := by
  have hb : ∀ f : Fin 256, (BitVec.extractLsb' 3 4 (BitVec.ofFin (w := 8) f)).toNat = 15 ∧ (BitVec.extractLsb' 0 3 (BitVec.ofFin (w := 8) f)).toNat = 7 →
      f = 127 ∨ f = 255 := by decide +kernel
  show ∃ r : ℝ, Ideal.e4m3fn v = r
  have hn : ¬((BitVec.extractLsb' 3 4 v).toNat = 15 ∧ (BitVec.extractLsb' 0 3 v).toNat = 7) := fun e => by
    rcases hb v.toFin e with q | q
    · exact h.1 (BitVec.eq_of_toFin_eq q)
    · exact h.2 (BitVec.eq_of_toFin_eq q)
  unfold Ideal.e4m3fn
  simp only [if_neg hn]
  split
  · exact ⟨_, rfl⟩
  · exact ⟨_, rfl⟩

section parts

variable (a0 : IVec S3x768x14336 8) (a1 : FVec Ideal S3x768x112 .f32) (a2 : FVec Ideal S1 .f32) (a3 a4 : FVec Ideal S1x3x768 .f32)
  (a5 a6 : FVec Ideal S14336 .f32)

theorem part0 (j : S3x768x14336.Idx) (h : (fn (F := Ideal) a0 a1 a2 a3 a4 a5 a6).1 j = 1#1) : a0 j ≠ 127#8 ∧ a0 j ≠ 255#8 := by
  have e : (fn (F := Ideal) a0 a1 a2 a3 a4 a5 a6).1 j = IntOp.andi (IntOp.cmpi .ne (a0 j) 127#8) (IntOp.cmpi .ne (a0 j) 255#8) := by
    pointwise [fn, fn_part1]
  have ⟨h1, h2⟩ := and_bits _ _ (e.symm.trans h)
  refine ⟨fun q => ?_, fun q => ?_⟩
  · rw [q] at h1; exact absurd h1 (by decide)
  · rw [q] at h2; exact absurd h2 (by decide)

theorem part1 (j : S3x768x112.Idx) (h : (fn (F := Ideal) a0 a1 a2 a3 a4 a5 a6).2.1 j = 1#1) : ∃ r : ℝ, a1 j = r := by
  refine real_of_lt _ ?_
  revert h
  pointwise [fn, fn_part1]
  rw [bit_iff, top_eq, Ideal.absf_def]
  exact id

theorem part2 (j : S1.Idx) (h : (fn (F := Ideal) a0 a1 a2 a3 a4 a5 a6).2.2.1 j = 1#1) : ∃ r : ℝ, a2 j = r ∧ 0 ≤ r ∧ r ≤ 2 ^ 40 := by
  have e : 0 ≤ a2 j ∧ a2 j ≤ ((2 ^ 40 : ℝ) : EReal) := by
    revert h
    pointwise [fn, fn_part1]
    intro h
    have ⟨h1, h2⟩ := and_bits _ _ h
    rw [bit_iff] at h1 h2
    exact ⟨h1, big_eq ▸ h2⟩
  have ht : max (a2 j : EReal) (-(a2 j)) < ⊤ := max_lt (e.2.trans_lt (EReal.coe_lt_top _))
    ((EReal.neg_le_neg_iff.mpr e.1).trans_lt (by rw [neg_zero]; exact EReal.zero_lt_top))
  obtain ⟨r, hr⟩ := real_of_lt _ ht
  rw [hr] at e
  exact ⟨r, hr, EReal.coe_nonneg.mp e.1, EReal.coe_le_coe_iff.mp e.2⟩

theorem part3 (j : S1x3x768.Idx) (h : (fn (F := Ideal) a0 a1 a2 a3 a4 a5 a6).2.2.2.1 j = 1#1) : ∃ r : ℝ, a3 j = r := by
  refine real_of_lt _ ?_
  revert h
  pointwise [fn, fn_part1]
  rw [bit_iff, top_eq, Ideal.absf_def]
  exact id

theorem part4 (j : S1x3x768.Idx) (h : (fn (F := Ideal) a0 a1 a2 a3 a4 a5 a6).2.2.2.2.1 j = 1#1) : 0 ≤ a4 j := by
  revert h
  pointwise [fn, fn_part1]
  rw [bit_iff]
  exact id

theorem part5 (j : S14336.Idx) (h : (fn (F := Ideal) a0 a1 a2 a3 a4 a5 a6).2.2.2.2.2.1 j = 1#1) : ∃ r : ℝ, a5 j = r ∧ |r| ≤ 2 ^ 40 := by
  refine real_of_le _ ?_
  revert h
  pointwise [fn, fn_part1]
  rw [bit_iff, big_eq, Ideal.absf_def]
  exact id

theorem part6 (j : S14336.Idx) (h : (fn (F := Ideal) a0 a1 a2 a3 a4 a5 a6).2.2.2.2.2.2 j = 1#1) : ∃ r : ℝ, a6 j = r ∧ |r| ≤ 2 ^ 40 := by
  refine real_of_le _ ?_
  revert h
  pointwise [fn, fn_part1]
  rw [bit_iff, big_eq, Ideal.absf_def]
  exact id

/-- Every row of arguments that meet the precondition is tame. -/
theorem tame_of
    (h : (fn (F := Ideal) a0 a1 a2 a3 a4 a5 a6).1 = (fun _ => 1#1)
      ∧ (fn (F := Ideal) a0 a1 a2 a3 a4 a5 a6).2.1 = (fun _ => 1#1)
      ∧ (fn (F := Ideal) a0 a1 a2 a3 a4 a5 a6).2.2.1 = (fun _ => 1#1)
      ∧ (fn (F := Ideal) a0 a1 a2 a3 a4 a5 a6).2.2.2.1 = (fun _ => 1#1)
      ∧ (fn (F := Ideal) a0 a1 a2 a3 a4 a5 a6).2.2.2.2.1 = (fun _ => 1#1)
      ∧ (fn (F := Ideal) a0 a1 a2 a3 a4 a5 a6).2.2.2.2.2.1 = (fun _ => 1#1)
      ∧ (fn (F := Ideal) a0 a1 a2 a3 a4 a5 a6).2.2.2.2.2.2 = (fun _ => 1#1)) (b : Fin 3) (r : Fin 768) :
    Tame (ReferenceIdeal.Val.xR (bitcastToFloat (F := Ideal) .fp8e4m3 a0) b r) (ReferenceIdeal.Val.sR a1 b r) (a2 (ix1 0))
      (ReferenceIdeal.Val.pR a3 b r) (ReferenceIdeal.Val.pR a4 b r) (ReferenceIdeal.Val.gR a5) (ReferenceIdeal.Val.gR a6) where
  x i k := code_real _ (part0 a0 a1 a2 a3 a4 a5 a6 _ (congrFun h.1 _))
  s i := part1 a0 a1 a2 a3 a4 a5 a6 _ (congrFun h.2.1 _)
  n := part2 a0 a1 a2 a3 a4 a5 a6 _ (congrFun h.2.2.1 _)
  p := part3 a0 a1 a2 a3 a4 a5 a6 _ (congrFun h.2.2.2.1 _)
  q := part4 a0 a1 a2 a3 a4 a5 a6 _ (congrFun h.2.2.2.2.1 _)
  g i k := part5 a0 a1 a2 a3 a4 a5 a6 _ (congrFun h.2.2.2.2.2.1 _)
  b i k := part6 a0 a1 a2 a3 a4 a5 a6 _ (congrFun h.2.2.2.2.2.2 _)

end parts

end Cert.Pre_tame.Val
-- ==== Proof.Same.lean ====
/- On arguments that meet the precondition, the reference's payloads are the kernel's four result arrays. -/
module

public import proofs.«01_k».proof.Proof.KOut
public import proofs.«01_k».proof.Proof.RFin
public import proofs.«01_k».proof.Proof.Pre

@[expose] public section

set_option maxRecDepth 16384

noncomputable section

namespace Cert.Same

open Idealize.ShloMosaic Idealize.ShloMosaic.TcCoe Cert.Row
open Cert.ReferenceIdeal.Val (xR sR pR gR)
open Cert.KernelIdeal (nD τ sig)
open Cert.KernelIdeal.Val (A0 A1 A2 A3 A4 A5 A6 G7 G8 G9 G10)

variable (m : (ℓ : Loc nD τ sig) → Buf (Elt Ideal) ℓ) (c : Dev nD)

/-- Every row of the arguments is tame. -/
def Rows : Prop := ∀ (b : Fin 3) (r : Fin 768),
  Tame (xR (A0 m c) b r) (sR (A1 m c) b r) (A2 m c (ix1 0)) (pR (A3 m c) b r) (pR (A4 m c) b r) (gR (A5 m c)) (gR (A6 m c))

/-- An index of a row of results has nothing but zero in the middle. -/
theorem one_mid (j : Cert.ReferenceIdeal.S3x1x768.Idx) : ∃ (b : Fin 3) (r : Fin 768), j = ix3 b 0 r := ⟨j 0, j 2, by
  rw [eq_ix3 j]; exact congrArg (fun a => ix3 (j 0) a (j 2)) (Subsingleton.elim (α := Fin 1) _ _)⟩

/-- On tame rows the reference's payload for the codes is the kernel's result array. -/
theorem same7 (h : Rows m c) :
    Cert.ReferenceIdeal.Gen.k0_pay12 (F := Ideal) (Cert.ReferenceIdeal.Gen.k0_pay3 (F := Ideal) (A0 m c) (A1 m c))
      (Cert.ReferenceIdeal.Gen.k0_pay8 (F := Ideal) (A0 m c) (A1 m c) (A2 m c (ix1 0)) (A3 m c))
      (Cert.ReferenceIdeal.Gen.k0_pay9 (F := Ideal) (A0 m c) (A1 m c) (A2 m c (ix1 0)) (A3 m c) (A4 m c)) (A5 m c) (A6 m c) = G7 m c := by
  funext j
  obtain ⟨b, r, i, k, rfl⟩ : ∃ (b : Fin 3) (r : Fin 768) (i : Fin 112) (k : Fin 128),
      j = (ix3 b r ⟨128 * i.val + k.val, by omega⟩ : Cert.ReferenceIdeal.S3x768x14336.Idx) := by
    obtain ⟨i, k, e⟩ := Cert.KernelIdeal.Val.channel (j 2)
    refine ⟨j 0, j 1, i, k, ?_⟩
    rw [← e]; exact eq_ix3 j
  exact (Cert.ReferenceIdeal.Val.code_apply _ _ _ _ _ _ _ b r i k).trans
    (((agree _ _ _ _ _ _ _ (h b r)).2.2.1 i k).symm.trans (Cert.KernelIdeal.Val.G7_apply m c b r i k).symm)

/-- On tame rows the reference's payload for the scales is the kernel's result array. -/
theorem same8 (h : Rows m c) :
    Cert.ReferenceIdeal.Gen.k0_pay13 (F := Ideal) (Cert.ReferenceIdeal.Gen.k0_pay3 (F := Ideal) (A0 m c) (A1 m c))
      (Cert.ReferenceIdeal.Gen.k0_pay8 (F := Ideal) (A0 m c) (A1 m c) (A2 m c (ix1 0)) (A3 m c))
      (Cert.ReferenceIdeal.Gen.k0_pay9 (F := Ideal) (A0 m c) (A1 m c) (A2 m c (ix1 0)) (A3 m c) (A4 m c)) (A5 m c) (A6 m c) = G8 m c := by
  funext j
  obtain ⟨b, i, r, rfl⟩ : ∃ (b : Fin 3) (i : Fin 112) (r : Fin 768), j = (ix3 b i r : Cert.ReferenceIdeal.S3x112x768.Idx) :=
    ⟨j 0, j 1, j 2, eq_ix3 j⟩
  exact (Cert.ReferenceIdeal.Val.scale_apply _ _ _ _ _ _ _ b r i).trans ((agree _ _ _ _ _ _ _ (h b r)).2.2.2 i).symm

/-- On tame rows the reference's payload for the mean is the kernel's result array. -/
theorem same9 (h : Rows m c) :
    Cert.ReferenceIdeal.Gen.k0_pay1 (F := Ideal)
      (Cert.ReferenceIdeal.Gen.k0_pay8 (F := Ideal) (A0 m c) (A1 m c) (A2 m c (ix1 0)) (A3 m c)) = G9 m c := by
  funext j
  obtain ⟨b, r, rfl⟩ := one_mid j
  exact (Cert.ReferenceIdeal.Val.pay1_apply _ b r).trans ((Cert.ReferenceIdeal.Val.mean_apply _ _ _ _ b r).trans
    (agree _ _ _ _ _ _ _ (h b r)).1.symm)

/-- On tame rows the reference's payload for the reciprocal deviation is the kernel's result array. -/
theorem same10 (h : Rows m c) :
    Cert.ReferenceIdeal.Gen.k0_pay2 (F := Ideal)
      (Cert.ReferenceIdeal.Gen.k0_pay9 (F := Ideal) (A0 m c) (A1 m c) (A2 m c (ix1 0)) (A3 m c) (A4 m c)) = G10 m c := by
  funext j
  obtain ⟨b, r, rfl⟩ := one_mid j
  exact (Cert.ReferenceIdeal.Val.pay2_apply _ b r).trans ((Cert.ReferenceIdeal.Val.rs_apply _ _ _ _ _ b r).trans
    (agree _ _ _ _ _ _ _ (h b r)).2.1.symm)

end Cert.Same
-- ==== Proof.lean ====
/-
The proof of `Cert.Claim` (proofs.«01_k».proof.Defs): the frames of the kernel, of the kernel as it is read on the extended reals and
of the reference; that the second is the first; and that, on arguments which meet the precondition, the kernel's four results are the
reference's.
-/
module

public import proofs.«01_k».proof.Defs
public import proofs.«01_k».proof.Proof.KFrame
public import proofs.«01_k».proof.Proof.Same
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

section results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' argument arrays on a device are the same. -/
def Agree (c : Dev Cert.KernelIdeal.nD) : Prop :=
  Cert.ReferenceIdeal.Val.A0 m' c = Cert.KernelIdeal.Val.A0 m c ∧ Cert.ReferenceIdeal.Val.A1 m' c = Cert.KernelIdeal.Val.A1 m c
    ∧ Cert.ReferenceIdeal.Val.A2 m' c = Cert.KernelIdeal.Val.A2 m c ∧ Cert.ReferenceIdeal.Val.A3 m' c = Cert.KernelIdeal.Val.A3 m c
    ∧ Cert.ReferenceIdeal.Val.A4 m' c = Cert.KernelIdeal.Val.A4 m c ∧ Cert.ReferenceIdeal.Val.A5 m' c = Cert.KernelIdeal.Val.A5 m c
    ∧ Cert.ReferenceIdeal.Val.A6 m' c = Cert.KernelIdeal.Val.A6 m c

/-- The precondition makes every row of the arguments tame. -/
theorem rows (hpre : Cert.Pre_KernelIdeal_tame m) (c : Dev Cert.KernelIdeal.nD) : Cert.Same.Rows m c := fun b r =>
  Cert.Pre_tame.Val.tame_of _ _ _ _ _ _ _ (hpre c) b r

/-- What the reference leaves in its result for the codes is the kernel's array. -/
theorem result7 (c : Dev Cert.KernelIdeal.nD) (ha : Agree m m' c) (h : Cert.Same.Rows m c) :
    (Cert.ReferenceIdeal.Gen.dats m' 0 c).arrAt 7 Cert.ReferenceIdeal.cfg0.N = Cert.KernelIdeal.Val.G7 m c := by
  rw [Cert.ReferenceIdeal.Val.final7, ha.1, ha.2.1, ha.2.2.1, ha.2.2.2.1, ha.2.2.2.2.1, ha.2.2.2.2.2.1, ha.2.2.2.2.2.2]
  exact Cert.Same.same7 m c h

/-- What the reference leaves in its result for the scales is the kernel's array. -/
theorem result8 (c : Dev Cert.KernelIdeal.nD) (ha : Agree m m' c) (h : Cert.Same.Rows m c) :
    (Cert.ReferenceIdeal.Gen.dats m' 0 c).arrAt 8 Cert.ReferenceIdeal.cfg0.N = Cert.KernelIdeal.Val.G8 m c := by
  rw [Cert.ReferenceIdeal.Val.final8, ha.1, ha.2.1, ha.2.2.1, ha.2.2.2.1, ha.2.2.2.2.1, ha.2.2.2.2.2.1, ha.2.2.2.2.2.2]
  exact Cert.Same.same8 m c h

/-- What the reference leaves in its result for the mean is the kernel's array. -/
theorem result9 (c : Dev Cert.KernelIdeal.nD) (ha : Agree m m' c) (h : Cert.Same.Rows m c) :
    (Cert.ReferenceIdeal.Gen.dats m' 0 c).arrAt 9 Cert.ReferenceIdeal.cfg0.N = Cert.KernelIdeal.Val.G9 m c := by
  rw [Cert.ReferenceIdeal.Val.final9, ha.1, ha.2.1, ha.2.2.1, ha.2.2.2.1]
  exact Cert.Same.same9 m c h

/-- What the reference leaves in its result for the reciprocal deviation is the kernel's array. -/
theorem result10 (c : Dev Cert.KernelIdeal.nD) (ha : Agree m m' c) (h : Cert.Same.Rows m c) :
    (Cert.ReferenceIdeal.Gen.dats m' 0 c).arrAt 10 Cert.ReferenceIdeal.cfg0.N = Cert.KernelIdeal.Val.G10 m c := by
  rw [Cert.ReferenceIdeal.Val.final10, ha.1, ha.2.1, ha.2.2.1, ha.2.2.2.1, ha.2.2.2.2.1]
  exact Cert.Same.same10 m c h

end results

/-- The kernel's four results are the reference's. -/
theorem algebraic : Cert.algebraic_KernelIdeal_ReferenceIdeal_pre_tame := by
  intro m g m' g' hpre hagree
  have hr := rows m hpre
  have ha : ∀ c, Agree m m' c := fun c => ⟨congrArg (bitcastToFloat (F := Ideal) .fp8e4m3) (hagree c).1, (hagree c).2.1, (hagree c).2.2.1,
    (hagree c).2.2.2.1, (hagree c).2.2.2.2.1, (hagree c).2.2.2.2.2.1, (hagree c).2.2.2.2.2.2⟩
  refine ⟨fun c => (Cert.KernelIdeal.Val.dats m 0 c).arrAt 7 Cert.KernelIdeal.cfg0.N, fun c => (Cert.KernelIdeal.Val.dats m 0 c).arrAt 8 Cert.KernelIdeal.cfg0.N,
    fun c => (Cert.KernelIdeal.Val.dats m 0 c).arrAt 9 Cert.KernelIdeal.cfg0.N, fun c => (Cert.KernelIdeal.Val.dats m 0 c).arrAt 10 Cert.KernelIdeal.cfg0.N, ?_, ?_⟩
  · run_from Cert.KernelIdeal.Val.run_main m g
  · refine (θ_run (Cert.ReferenceIdeal.defs (F := Ideal)) _ _).mono (fun r h c => ?_) (Cert.ReferenceIdeal.Gen.run_main m' g')
    exact ⟨(Cert.ReferenceIdeal.Value.post7 m' r h c).trans ((result7 m m' c (ha c) (hr c)).trans (Cert.KernelIdeal.Val.final7 m c).symm),
      (Cert.ReferenceIdeal.Value.post8 m' r h c).trans ((result8 m m' c (ha c) (hr c)).trans (Cert.KernelIdeal.Val.final8 m c).symm),
      (Cert.ReferenceIdeal.Value.post9 m' r h c).trans ((result9 m m' c (ha c) (hr c)).trans (Cert.KernelIdeal.Val.final9 m c).symm),
      (Cert.ReferenceIdeal.Value.post10 m' r h c).trans ((result10 m m' c (ha c) (hr c)).trans (Cert.KernelIdeal.Val.final10 m c).symm),
      Cert.ReferenceIdeal.Value.kept_main_arg0 m' r h c, Cert.ReferenceIdeal.Value.kept_main_arg1 m' r h c,
      Cert.ReferenceIdeal.Value.kept_main_arg2 m' r h c, Cert.ReferenceIdeal.Value.kept_main_arg3 m' r h c,
      Cert.ReferenceIdeal.Value.kept_main_arg4 m' r h c, Cert.ReferenceIdeal.Value.kept_main_arg5 m' r h c,
      Cert.ReferenceIdeal.Value.kept_main_arg6 m' r h c⟩

/-- The whole certificate: the frames, the ideal program being the kernel, and the equality of the four results. -/
theorem claim : Cert.Claim := ⟨Cert.Kernel.Gen.facts, Cert.KernelIdeal.Gen.facts, Cert.ReferenceIdeal.Gen.facts, Cert.Pre_tame.Gen.facts,
  fun m ρ _ => Cert.Kernel.Run.frame m ρ, fun m ρ _ => Cert.KernelIdeal.Val.frame m ρ, fun m ρ _ => Cert.KernelIdeal.Val.frame m ρ,
  fun m ρ _ => Cert.ReferenceIdeal.Gen.frame m ρ, fun m ρ _ => Cert.ReferenceIdeal.Gen.frame m ρ, trivial, algebraic⟩

end Cert.Proof

end
